-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S100000 : Shape := ⟨1, ![100000]⟩
abbrev S128x256 : Shape := ⟨2, ![128, 256]⟩
abbrev S256 : Shape := ⟨1, ![256]⟩
abbrev S256x100000 : Shape := ⟨2, ![256, 100000]⟩
abbrev S256x1 : Shape := ⟨2, ![256, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x100000 : S_.BroadcastsInDim S256x100000 (![] : Fin 0 → Fin S256x100000.rank)
  reducesTo_S256x100000_S_d0_1 : S256x100000.ReducesTo [0, 1] S_
  bcast_S_S100000 : S_.BroadcastsInDim S100000 (![] : Fin 0 → Fin S100000.rank)
  reducesTo_S100000_S_d0 : S100000.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S100000 .f32) (main_arg6 : FVec F S128x256 .f32) (main_arg7 : FVec F S256 .f32) (main_arg8 : FVec F S256x1 .f32) (main_arg9 : FVec F S1 .f32) (main_v13 : IVec S_ 1) (main_v16 : IVec S256x100000 1) : IVec S_ 1 :=
  let main_c_5 : IVec S_ 1 := constantI S_ 1 1#1
  let main_v17 : IVec S_ 1 := (fun x v => Host.reduce IntOp.andi x v reducesTo_S256x100000_S_d0_1 h_S_) main_v16 main_c_5
  let main_v18 : IVec S_ 1 := andi main_v13 main_v17
  let main_v19 : FVec F S100000 .f32 := Host.absf main_arg5
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S10000x128 .f32) (main_arg1 : IVec S100000 1) (main_arg2 : FVec F S128x256 .f32) (main_arg3 : FVec F S256 .f32) (main_arg4 : FVec F S256x100000 .f32) (main_arg5 : FVec F S100000 .f32) (main_arg6 : FVec F S128x256 .f32) (main_arg7 : FVec F S256 .f32) (main_arg8 : FVec F S256x1 .f32) (main_arg9 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x100000 .f32 := Host.absf main_arg4
  let main_cst_4 : FVec F S_ .f32 := constant S_ .f32 0x7F800000#32
  let main_v15 : FVec F S256x100000 .f32 := broadcastInDim S256x100000 ![] bcast_S_S256x100000 main_cst_4
  let main_v16 : IVec S256x100000 1 := cmpf .olt main_v14 main_v15
  fn_part1 (F := F) main_arg5 main_arg6 main_arg7 main_arg8 main_arg9 main_v13 main_v16
-- ==== KernelIdeal.lean ====
abbrev S10000x128 : Shape := ⟨2, ![10000, 128]⟩
abbrev S100000 : Shape := ⟨1, ![100000]⟩
abbrev S128x256 : Shape := ⟨2, ![128, 256]⟩
abbrev S256 : Shape := ⟨1, ![256]⟩
abbrev S256x100000 : Shape := ⟨2, ![256, 100000]⟩
abbrev S256x1 : Shape := ⟨2, ![256, 1]⟩
abbrev S1 : Shape := ⟨1, ![1]⟩
abbrev S10000x1 : Shape := ⟨2, ![10000, 1]⟩
abbrev S1x4096 : Shape := ⟨2, ![1, 4096]⟩
abbrev S_ : Shape := ⟨0, ![]⟩
abbrev S2400 : Shape := ⟨1, ![2400]⟩
abbrev S102400 : Shape := ⟨1, ![102400]⟩
abbrev S1x102400 : Shape := ⟨2, ![1, 102400]⟩
abbrev S1x256 : Shape := ⟨2, ![1, 256]⟩
abbrev S1x1 : Shape := ⟨2, ![1, 1]⟩
abbrev S10000x256 : Shape := ⟨2, ![10000, 256]⟩
abbrev S1x10000x1 : Shape := ⟨3, ![1, 10000, 1]⟩
abbrev S1x1x1 : Shape := ⟨3, ![1, 1, 1]⟩
abbrev S1x128 : Shape := ⟨2, ![1, 128]⟩
abbrev S256x4096 : Shape := ⟨2, ![256, 4096]⟩
abbrev S4 : Shape := ⟨1, ![4]⟩
abbrev S1x1x4096 : Shape := ⟨3, ![1, 1, 4096]⟩

abbrev nBuf : Space → Nat
  | .hbm => 38
  | .vmem => 19
  | .smem => 5
  | _ => 0

abbrev bufTy : (tb : Table) → Fin (tcTables nBuf tb) → BufTy
  | .hbm, ⟨0, _⟩ => ⟨S10000x128, .f32⟩
  | .hbm, ⟨1, _⟩ => ⟨S100000, .i1⟩
  | .hbm, ⟨2, _⟩ => ⟨S128x256, .f32⟩
  | .hbm, ⟨3, _⟩ => ⟨S256, .f32⟩
  | .hbm, ⟨4, _⟩ => ⟨S256x100000, .f32⟩
  | .hbm, ⟨5, _⟩ => ⟨S100000, .f32⟩
  | .hbm, ⟨6, _⟩ => ⟨S128x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S100000, .f32⟩
  | .hbm, ⟨11, _⟩ => ⟨S10000x1, .f32⟩
  | .hbm, ⟨12, _⟩ => ⟨S10000x1, .i32⟩
  | .hbm, ⟨13, _⟩ => ⟨S1x4096, .i32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S2400, .f32⟩
  | .hbm, ⟨21, _⟩ => ⟨S102400, .f32⟩
  | .hbm, ⟨22, _⟩ => ⟨S1x102400, .f32⟩
  | .hbm, ⟨23, _⟩ => ⟨S100000, .f32⟩
  | .hbm, ⟨24, _⟩ => ⟨S_, .f32⟩
  | .hbm, ⟨25, _⟩ => ⟨S2400, .f32⟩
  | .hbm, ⟨26, _⟩ => ⟨S102400, .f32⟩
  | .hbm, ⟨27, _⟩ => ⟨S1x102400, .f32⟩
  | .hbm, ⟨28, _⟩ => ⟨S1x256, .f32⟩
  | .hbm, ⟨29, _⟩ => ⟨S1x1, .f32⟩
  | .hbm, ⟨30, _⟩ => ⟨S1x256, .f32⟩
  | .hbm, ⟨31, _⟩ => ⟨S1, .i32⟩
  | .hbm, ⟨32, _⟩ => ⟨S1x256, .f32⟩
  | .hbm, ⟨33, _⟩ => ⟨S1, .i32⟩
  | .hbm, ⟨34, _⟩ => ⟨S1, .f32⟩
  | .hbm, ⟨35, _⟩ => ⟨S_, .i32⟩
  | .hbm, ⟨36, _⟩ => ⟨S_, .i32⟩
  | .hbm, ⟨37, _⟩ => ⟨S_, .f32⟩
  | .local _ .vmem, ⟨0, _⟩ => ⟨S2400, .f32⟩
  | .local _ .vmem, ⟨1, _⟩ => ⟨S10000x128, .f32⟩
  | .local _ .vmem, ⟨2, _⟩ => ⟨S10000x1, .f32⟩
  | .local _ .vmem, ⟨3, _⟩ => ⟨S10000x1, .i32⟩
  | .local _ .vmem, ⟨4, _⟩ => ⟨S128x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S128x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x4096, .i32⟩
  | .local _ .vmem, ⟨13, _⟩ => ⟨S256x4096, .f32⟩
  | .local _ .vmem, ⟨14, _⟩ => ⟨S256x4096, .f32⟩
  | .local _ .vmem, ⟨15, _⟩ => ⟨S1x4096, .f32⟩
  | .local _ .vmem, ⟨16, _⟩ => ⟨S1x4096, .f32⟩
  | .local _ .vmem, ⟨17, _⟩ => ⟨S1x4096, .f32⟩
  | .local _ .vmem, ⟨18, _⟩ => ⟨S1x4096, .f32⟩
  | .local _ .smem, ⟨0, _⟩ => ⟨S1, .i32⟩
  | .local _ .smem, ⟨1, _⟩ => ⟨S1, .i32⟩
  | .local _ .smem, ⟨2, _⟩ => ⟨S1, .f32⟩
  | .local _ .smem, ⟨3, _⟩ => ⟨S4, .f32⟩
  | .local _ .smem, ⟨4, _⟩ => ⟨S1, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_c : Ref sig .tc := ⟨.hbm, 12, rfl⟩
abbrev main_c_1 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_4 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev main_v13_0 : Ref sig .tc := ⟨.hbm, 33, rfl⟩
abbrev main_v13_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc1_stg0_0 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg10_0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc1_stg9_0 : Ref sig .tc := ⟨.smem, 0, rfl⟩
abbrev cc2_stg5_0 : Ref sig .tc := ⟨.smem, 1, rfl⟩
abbrev cc2_stg6_0 : Ref sig .tc := ⟨.smem, 2, rfl⟩
abbrev cc2_scratch0 : Ref sig .tc := ⟨.smem, 3, rfl⟩
abbrev cc2_scratch1 : Ref sig .tc := ⟨.smem, 4, rfl⟩
abbrev cc0_sem0_0 : DmaSem sig := 0
abbrev cc1_sem0_0 : DmaSem sig := 1
abbrev cc1_sem1_0 : DmaSem sig := 2
abbrev cc1_sem2_0 : DmaSem sig := 3
abbrev cc1_sem3_0 : DmaSem sig := 4
abbrev cc1_sem4_0 : DmaSem sig := 5
abbrev cc1_sem5_0 : DmaSem sig := 6
abbrev cc1_sem6_0 : DmaSem sig := 7
abbrev cc1_sem7_0 : DmaSem sig := 8
abbrev cc1_sem8_0 : DmaSem sig := 9
abbrev cc1_sem9_0 : DmaSem sig := 10
abbrev cc1_sem10_0 : DmaSem sig := 11
abbrev cc2_sem0_0 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem6_0 : DmaSem sig := 21

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S2400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (v29 : BitVec 32) : Fin 2 → Nat :=
  let v31 : Index := Scalar.indexCast v29
  let c0_18 : Index := 0#32
  ![v31.toNat, 0]

def k1_chk1 (v29 : BitVec 32) : Prop :=
  (∀ a, (k1_off1 v29) a + S1x128.size a ≤ S10000x128.size a)
theorem k1_off1_inb : ∀ (v29 : BitVec 32) (k1_hw1 : k1_chk1 v29), ∀ a, (k1_off1 v29) a + S1x128.size a ≤ S10000x128.size a := fun v29 k1_hw1 => k1_hw1

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .smem S1 .i32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev grid2 : Pipeline.Grid := ⟨1, ![25], ![false]⟩

def k2_cond3 (i : grid2.Coords) : BitVec 1 :=
  let arg0 : BitVec 32 := BitVec.ofNat 32 (i 0).val
  let c24_i32 : BitVec 32 := 24#32
  let v41 : BitVec 1 := Scalar.cmpi .eq arg0 c24_i32
  let v42 : BitVec 32 := Scalar.extui v41
  let c0_i32_15 : BitVec 32 := 0#32
  let v43 : BitVec 1 := Scalar.cmpi .ne v42 c0_i32_15
  v43

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 1 → Memref sig .tc .vmem S1x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x4096 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .smem S1 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .smem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== ReferenceIdeal.lean ====
abbrev S10000x128 : Shape := ⟨2, ![10000, 128]⟩
abbrev S100000 : Shape := ⟨1, ![100000]⟩
abbrev S128x256 : Shape := ⟨2, ![128, 256]⟩
abbrev S256 : Shape := ⟨1, ![256]⟩
abbrev S256x100000 : Shape := ⟨2, ![256, 100000]⟩
abbrev S256x1 : Shape := ⟨2, ![256, 1]⟩
abbrev S1 : Shape := ⟨1, ![1]⟩
abbrev S10000 : Shape := ⟨1, ![10000]⟩
abbrev S10000x256 : Shape := ⟨2, ![10000, 256]⟩
abbrev S1x256 : Shape := ⟨2, ![1, 256]⟩
abbrev S_ : Shape := ⟨0, ![]⟩
abbrev S10000x1 : Shape := ⟨2, ![10000, 1]⟩
abbrev S1x1 : Shape := ⟨2, ![1, 1]⟩
abbrev S1x128 : Shape := ⟨2, ![1, 128]⟩
abbrev S128 : Shape := ⟨1, ![128]⟩

abbrev nBuf : Space → Nat
  | .hbm => 89
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S100000, .i1⟩
  | .hbm, ⟨2, _⟩ => ⟨S128x256, .f32⟩
  | .hbm, ⟨3, _⟩ => ⟨S256, .f32⟩
  | .hbm, ⟨4, _⟩ => ⟨S256x100000, .f32⟩
  | .hbm, ⟨5, _⟩ => ⟨S100000, .f32⟩
  | .hbm, ⟨6, _⟩ => ⟨S128x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S10000, .f32⟩
  | .hbm, ⟨11, _⟩ => ⟨S100000, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | .hbm, ⟨16, _⟩ => ⟨S_, .f32⟩
  | .hbm, ⟨17, _⟩ => ⟨S10000x256, .f32⟩
  | .hbm, ⟨18, _⟩ => ⟨S10000x256, .f32⟩
  | .hbm, ⟨19, _⟩ => ⟨S10000x1, .f32⟩
  | .hbm, ⟨20, _⟩ => ⟨S1x1, .f32⟩
  | .hbm, ⟨21, _⟩ => ⟨S10000x1, .f32⟩
  | .hbm, ⟨22, _⟩ => ⟨S10000x1, .f32⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000, .f32⟩
  | .hbm, ⟨35, _⟩ => ⟨S10000, .i32⟩
  | .hbm, ⟨36, _⟩ => ⟨S_, .f32⟩
  | .hbm, ⟨37, _⟩ => ⟨S_, .i32⟩
  | .hbm, ⟨38, _⟩ => ⟨S_, .f32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x128, .f32⟩
  | .hbm, ⟨54, _⟩ => ⟨S128, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S100000, .i32⟩
  | .hbm, ⟨78, _⟩ => ⟨S_, .f32⟩
  | .hbm, ⟨79, _⟩ => ⟨S_, .i32⟩
  | .hbm, ⟨80, _⟩ => ⟨S_, .f32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S1, .f32⟩
  | .hbm, ⟨88, _⟩ => ⟨S_, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_v0 : Ref sig .tc := ⟨.hbm, 35, rfl⟩
abbrev main_call0_cst : Ref sig .tc := ⟨.hbm, 36, rfl⟩
abbrev main_call0_c : Ref sig .tc := ⟨.hbm, 37, rfl⟩
abbrev main_call0_v1_0 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_c_6 : Ref sig .tc := ⟨.hbm, 46, rfl⟩
abbrev main_v24 : Ref sig .tc := ⟨.hbm, 47, rfl⟩
abbrev main_c_7 : Ref sig .tc := ⟨.hbm, 48, rfl⟩
abbrev main_c_8 : Ref sig .tc := ⟨.hbm, 49, rfl⟩
abbrev main_v25 : Ref sig .tc := ⟨.hbm, 50, rfl⟩
abbrev main_c_9 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_11 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_12 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_13 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call2_v0 : Ref sig .tc := ⟨.hbm, 77, rfl⟩
abbrev main_call2_cst : Ref sig .tc := ⟨.hbm, 78, rfl⟩
abbrev main_call2_c : Ref sig .tc := ⟨.hbm, 79, rfl⟩
abbrev main_call2_v1_0 : Ref sig .tc := ⟨.hbm, 80, rfl⟩
abbrev main_v47 : Ref sig .tc := ⟨.hbm, 81, rfl⟩
abbrev main_c_14 : Ref sig .tc := ⟨.hbm, 82, rfl⟩
abbrev main_v48 : Ref sig .tc := ⟨.hbm, 83, rfl⟩
abbrev main_c_15 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩

abbrev nD : Nat := 1
abbrev τ : Topo := Topo.v7x

variable {F : FTy → Type} [FloatOps F]
-- ==== Proof.Maths.lean ====
/-
  The mathematics of the two draws, over the extended reals and away from any program: the first position of a
  greatest score, how it moves under a shift and from one tile to the next, and the running sum of exponentials.
-/
module

public import Idealize.ShloMosaic.PureOps.Ideal.Laws
public import Mathlib.Tactic.IntervalCases

@[expose] public section

namespace Cert.Proof

open Idealize.ShloMosaic
open scoped BigOperators

/-! ## The first position of the greatest score -/

/-- `j` is the first position below `n` at which `s` is greatest. -/
def FirstMax (n : ℕ) (s : ℕ → EReal) (j : ℕ) : Prop := j < n ∧ (∀ i, i < n → s i ≤ s j) ∧ ∀ i, i < j → s i < s j

/-- There is only one such position. -/
theorem FirstMax.unique {n : ℕ} {s : ℕ → EReal} {j k : ℕ} (hj : FirstMax n s j) (hk : FirstMax n s k) : j = k := by
  rcases lt_trichotomy j k with h | h | h
  · exact absurd (hk.2.2 j h) (not_lt.2 (hj.2.1 k hk.1))
  · exact h
  · exact absurd (hj.2.2 k h) (not_lt.2 (hk.2.1 j hj.1))

/-- There is one. -/
theorem exists_firstMax (n : ℕ) (hn : 0 < n) (s : ℕ → EReal) : ∃ j, FirstMax n s j := by
  obtain ⟨b, hb, hmax⟩ := Finset.exists_max_image (Finset.range n) s ⟨0, Finset.mem_range.2 hn⟩
  have hex : ∃ j, j < n ∧ ∀ i, i < n → s i ≤ s j :=
    ⟨b, Finset.mem_range.1 hb, fun i hi => hmax i (Finset.mem_range.2 hi)⟩
  classical
  refine ⟨Nat.find hex, (Nat.find_spec hex).1, (Nat.find_spec hex).2, fun i hi => ?_⟩
  have h := Nat.find_min hex hi
  have hin : i < n := hi.trans (Nat.find_spec hex).1
  by_contra hc
  exact h ⟨hin, fun k hk => ((Nat.find_spec hex).2 k hk).trans (not_lt.1 hc)⟩

/-- It depends on the scores below `n` alone. -/
theorem FirstMax.congr {n : ℕ} {s s' : ℕ → EReal} (h : ∀ i, i < n → s i = s' i) {j : ℕ} (hj : FirstMax n s j) : FirstMax n s' j := by
  refine ⟨hj.1, fun i hi => ?_, fun i hi => ?_⟩
  · rw [← h i hi, ← h j hj.1]; exact hj.2.1 i hi
  · rw [← h i (hi.trans hj.1), ← h j hj.1]; exact hj.2.2 i hi

/-- Adding one real to every score keeps it. -/
theorem FirstMax.shift {n : ℕ} {s s' : ℕ → EReal} (c : ℝ) (h : ∀ i, i < n → s' i = s i + (c : EReal)) {j : ℕ}
    (hj : FirstMax n s j) : FirstMax n s' j := by
  refine ⟨hj.1, fun i hi => ?_, fun i hi => ?_⟩
  · rw [h i hi, h j hj.1]; exact add_le_add_left (hj.2.1 i hi) _
  · rw [h i (hi.trans hj.1), h j hj.1]
    exact EReal.add_lt_add_right_coe (hj.2.2 i hi) c

/-- A further tile of `m` scores whose greatest is no greater keeps the position. -/
theorem FirstMax.keep {n m : ℕ} {s : ℕ → EReal} {j q : ℕ} (hj : FirstMax n s j) (hq : FirstMax m (fun i => s (n + i)) q)
    (h : ¬ s j < s (n + q)) : FirstMax (n + m) s j := by
  refine ⟨by have := hj.1; omega, fun i hi => ?_, hj.2.2⟩
  by_cases hin : i < n
  · exact hj.2.1 i hin
  · have := hq.2.1 (i - n) (by omega)
    simp only [Nat.add_sub_cancel' (not_lt.1 hin)] at this
    exact this.trans (not_lt.1 h)

/-- One whose greatest is greater takes it. -/
theorem FirstMax.take {n m : ℕ} {s : ℕ → EReal} {b : EReal} {q : ℕ} (hb : ∀ i, i < n → s i ≤ b)
    (hq : FirstMax m (fun i => s (n + i)) q) (h : b < s (n + q)) : FirstMax (n + m) s (n + q) := by
  refine ⟨by have := hq.1; omega, fun i hi => ?_, fun i hi => ?_⟩
  · by_cases hin : i < n
    · exact (hb i hin).trans h.le
    · have := hq.2.1 (i - n) (by omega)
      simpa only [Nat.add_sub_cancel' (not_lt.1 hin)] using this
  · by_cases hin : i < n
    · exact (hb i hin).trans_lt h
    · have := hq.2.2 (i - n) (by omega)
      simpa only [Nat.add_sub_cancel' (not_lt.1 hin)] using this

/-- The greatest score is the score at that position. -/
theorem FirstMax.sup_eq {n : ℕ} {s : ℕ → EReal} {j : ℕ} (hj : FirstMax n s j) : (Finset.range n).sup s = s j :=
  le_antisymm (Finset.sup_le fun i hi => hj.2.1 i (Finset.mem_range.1 hi)) (Finset.le_sup (Finset.mem_range.2 hj.1))

/-! ## Sums of exponentials -/

/-- The exponential is not negative. -/
theorem exp_nonneg (x : EReal) : 0 ≤ Ideal.exp x := by
  induction x with
  | bot => exact le_rfl
  | top => exact le_top
  | coe r => exact EReal.coe_nonneg.2 (Real.exp_pos r).le

/-- The sum of the exponentials of the first `n` values less `M`. -/
noncomputable def expSum (n : ℕ) (x : ℕ → EReal) (M : EReal) : EReal := ∑ j ∈ Finset.range n, Ideal.exp (x j - M)

theorem expSum_nonneg (n : ℕ) (x : ℕ → EReal) (M : EReal) : 0 ≤ expSum n x M :=
  Finset.sum_nonneg fun _ _ => exp_nonneg _

theorem exp_rescale (x : EReal) (hx : x ≠ ⊤) (a b : ℝ) :
    Ideal.exp (x - (a : EReal)) * Ideal.exp ((a : EReal) - (b : EReal)) = Ideal.exp (x - (b : EReal)) := by
  induction x with
  | bot => rw [EReal.bot_sub, EReal.bot_sub]; simp
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2; ring

/-- Changing the value subtracted. -/
theorem expSum_rescale (n : ℕ) (x : ℕ → EReal) (hx : ∀ j, j < n → x j ≠ ⊤) (a b : ℝ) :
    expSum n x a * Ideal.exp ((a : EReal) - (b : EReal)) = expSum n x b := by
  induction n with
  | zero => simp [expSum]
  | succ n ih =>
    have h := ih fun j hj => hx j (by omega)
    unfold expSum at h ⊢
    rw [Finset.sum_range_succ, Finset.sum_range_succ,
      EReal.right_distrib_of_nonneg (Finset.sum_nonneg fun _ _ => exp_nonneg _) (exp_nonneg _), h,
      exp_rescale _ (hx n (by omega))]

/-- A sum over `n + m` values is one over the first `n` and one over the others. -/
theorem expSum_add (n m : ℕ) (x : ℕ → EReal) (M : EReal) :
    expSum (n + m) x M = expSum n x M + expSum m (fun q => x (n + q)) M := by
  unfold expSum; rw [Finset.sum_range_add]

/-- Values that are −∞ add nothing. -/
theorem expSum_pad (n m : ℕ) (x : ℕ → EReal) (hx : ∀ j, n ≤ j → j < n + m → x j = ⊥) (M : EReal) :
    expSum (n + m) x M = expSum n x M := by
  rw [expSum_add]
  have : expSum m (fun q => x (n + q)) M = 0 := Finset.sum_eq_zero fun q hq => by
    show Ideal.exp (x (n + q) - M) = 0
    rw [hx (n + q) (by omega) (by have := Finset.mem_range.1 hq; omega), EReal.bot_sub]; rfl
  rw [this, add_zero]

/-- A sum over at least one real value is a positive real. -/
theorem expSum_real (n : ℕ) (hn : 0 < n) (x : ℕ → EReal) (hx : ∀ j, j < n → ∃ r : ℝ, x j = r) (M : ℝ) :
    ∃ s : ℝ, 0 < s ∧ expSum n x M = (s : EReal) := by
  induction n with
  | zero => omega
  | succ n ih =>
    obtain ⟨r, hr⟩ := hx n (by omega)
    have hl : Ideal.exp (x n - (M : EReal)) = ((Real.exp (r - M) : ℝ) : EReal) := by
      rw [hr, ← EReal.coe_sub, Ideal.exp_coe]
    unfold expSum at ih ⊢
    rw [Finset.sum_range_succ, hl]
    by_cases h0 : n = 0
    · subst h0
      exact ⟨Real.exp (r - M), Real.exp_pos _, by simp⟩
    · obtain ⟨s, hs, he⟩ := ih (by omega) fun j hj => hx j (by omega)
      exact ⟨s + Real.exp (r - M), by have := Real.exp_pos (r - M); linarith, by rw [he, EReal.coe_add]⟩

/-- Two ways to subtract the logarithm of the sum. -/
theorem sub_sub_log (x M : ℝ) (L : EReal) : (x : EReal) - ((M : EReal) + L) = ((x : EReal) - (M : EReal)) - L := by
  induction L with
  | bot => rw [EReal.add_bot, ← EReal.coe_sub]; rfl
  | top => rw [EReal.coe_add_top, ← EReal.coe_sub]; rfl
  | coe l => rw [← EReal.coe_add, ← EReal.coe_sub, ← EReal.coe_sub, ← EReal.coe_sub]; congr 1; ring

/-! ## Reals among the extended reals -/

/-- `x` is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.zero : IsReal 0 := ⟨0, rfl⟩
theorem IsReal.sum {ι : Type*} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

/-! ## The running state of a tiled draw -/

/-- What the four carried words and the carried index mean after the first `n` logits `x` with scores `s`: the best score,
    the logit at it, the greatest logit, the sum of exponentials, and the position of the best score. -/
structure Running (x s : ℕ → EReal) (n : ℕ) (p0 p1 p2 p3 : EReal) (pi : BitVec 32) : Prop where
  start : n = 0 → p0 = ⊥
  best : 0 < n → ∃ j, FirstMax n s j ∧ p0 = s j ∧ p1 = x j ∧ pi = BitVec.ofNat 32 j
  top : p2 = (Finset.range n).sup x
  sum : p3 = expSum n x p2

/-- Before the first tile. -/
theorem Running.zero (x s : ℕ → EReal) (p1 : EReal) (pi : BitVec 32) : Running x s 0 ⊥ p1 ⊥ 0 pi :=
  ⟨fun _ => rfl, fun h => absurd h (lt_irrefl 0), rfl, rfl⟩

/-- A supremum of values that are real or −∞, one of them real, is real. -/
theorem sup_real (n : ℕ) (x : ℕ → EReal) (hx : ∀ j, j < n → x j ≠ ⊤) {i : ℕ} (hi : i < n) (hr : IsReal (x i)) :
    IsReal ((Finset.range n).sup x) := by
  have h1 : (Finset.range n).sup x ≠ ⊤ := by
    refine ne_of_lt ((Finset.sup_lt_iff bot_lt_top).2 fun j hj => lt_top_iff_ne_top.2 (hx j (Finset.mem_range.1 hj)))
  have h2 : (Finset.range n).sup x ≠ ⊥ := by
    obtain ⟨r, hr⟩ := hr
    have : x i ≤ (Finset.range n).sup x := Finset.le_sup (Finset.mem_range.2 hi)
    intro h; rw [h, hr] at this; exact EReal.coe_ne_bot r (le_bot_iff.1 this)
  exact ⟨_, (EReal.coe_toReal h1 h2).symm⟩

/-- One tile: from the state after `n` values to that after `n + m`, given the tile's greatest logit `tm`, its sum of
    exponentials, and the first position `q` of its greatest score. -/
theorem Running.step {x s : ℕ → EReal} {n m : ℕ} {p0 p1 p2 p3 : EReal} {pi : BitVec 32} (R : Running x s n p0 p1 p2 p3 pi)
    (hx : ∀ j, j < n + m → x j ≠ ⊤) (hx0 : IsReal (x 0)) (hs0 : IsReal (s 0)) (hm : 0 < m) {q : ℕ}
    (hq : FirstMax m (fun i => s (n + i)) q) :
    Running x s (n + m)
      (if p0 < s (n + q) then s (n + q) else p0)
      (if p0 < s (n + q) then x (n + q) else p1)
      (max p2 ((Finset.range m).sup fun i => x (n + i)))
      (p3 * Ideal.exp (p2 - max p2 ((Finset.range m).sup fun i => x (n + i)))
        + expSum m (fun i => x (n + i)) (max p2 ((Finset.range m).sup fun i => x (n + i))))
      (if p0 < s (n + q) then BitVec.ofNat 32 (n + q) else pi) := by
  have htop : max p2 ((Finset.range m).sup fun i => x (n + i)) = (Finset.range (n + m)).sup x := by
    rw [R.top]
    refine le_antisymm (max_le (Finset.sup_mono (Finset.range_mono (by omega))) (Finset.sup_le fun i hi => ?_)) (Finset.sup_le fun i hi => ?_)
    · exact Finset.le_sup (f := x) (Finset.mem_range.2 (by have := Finset.mem_range.1 hi; omega))
    · have := Finset.mem_range.1 hi
      by_cases hin : i < n
      · exact (Finset.le_sup (f := x) (Finset.mem_range.2 hin)).trans (le_max_left _ _)
      · refine le_trans ?_ (le_max_right _ _)
        have h := Finset.le_sup (f := fun i => x (n + i)) (s := Finset.range m) (b := i - n) (Finset.mem_range.2 (by omega))
        simpa only [Nat.add_sub_cancel' (not_lt.1 hin)] using h
  refine ⟨fun h => by omega, fun _ => ?_, htop, ?_⟩
  · by_cases hn : n = 0
    · subst hn
      have hb : p0 = ⊥ := R.start rfl
      have hlt : p0 < s (0 + q) := by
        rw [hb]
        obtain ⟨r, hr⟩ := hs0
        have := hq.2.1 0 hm
        simp only [Nat.zero_add] at this ⊢
        rw [hr] at this
        exact (EReal.bot_lt_coe r).trans_le this
      exact ⟨0 + q, FirstMax.take (b := p0) (fun i hi => by omega) hq hlt, by rw [if_pos hlt], by rw [if_pos hlt], by rw [if_pos hlt]⟩
    · obtain ⟨j, hj, h0, h1, hi⟩ := R.best (by omega)
      by_cases hlt : p0 < s (n + q)
      · exact ⟨n + q, FirstMax.take (b := s j) hj.2.1 hq (h0 ▸ hlt), by rw [if_pos hlt], by rw [if_pos hlt], by rw [if_pos hlt]⟩
      · exact ⟨j, hj.keep hq (h0 ▸ hlt), by rw [if_neg hlt, h0], by rw [if_neg hlt, h1], by rw [if_neg hlt, hi]⟩
  · rw [htop, expSum_add, R.sum]
    congr 1
    by_cases hn : n = 0
    · subst hn; simp [expSum]
    · obtain ⟨a, ha⟩ := sup_real n x (fun j hj => hx j (by omega)) (by omega : 0 < n) hx0
      obtain ⟨b, hb⟩ := sup_real (n + m) x hx (by omega : 0 < n + m) hx0
      rw [R.top, ha, hb]
      exact expSum_rescale n x (fun j hj => hx j (by omega)) a b

end Cert.Proof
-- ==== Proof.Reductions.lean ====
/-
  Reductions of a whole vector at the ideal instance: the greatest value, the sum, and the least position at which
  the greatest value stands, each as the mathematics of the values along the vector's line of entries.
-/
module

public import proofs.«01_k».proof.Proof.Maths
public import Idealize.ShloMosaic.Lib.ValueIdxCore
public import Idealize.ShloMosaic.PureOps.Reduce

@[expose] public section

namespace Cert.Proof

open Idealize.ShloMosaic
open scoped BigOperators

variable {s s' t : Shape} {axes : List (Fin s.rank)}

/-- Every index of a shape reduced to one entry is dropped to it. -/
theorem all_dropped (h : s.Reduces axes t) (ht : ∀ b, t.size b = 1) (j : t.Idx) :
    (Finset.univ.filter fun i => h.drop i = j) = Finset.univ :=
  Finset.filter_true_of_mem fun i _ => funext fun b => Fin.ext (by
    have := (h.drop i b).isLt; have := (j b).isLt; have := ht b; omega)

theorem neg_inf_f32 : (FloatOps.ofBits (F := Ideal) .f32 0xFF800000#32 : EReal) = ⊥ := by
  show Ideal.ieee 8 23 0xFF800000#32 = ⊥
  simp [Ideal.ieee]

/-- A whole vector's greatest value. -/
theorem total_max (src : FVec Ideal s .f32) (h : s.Reduces axes t) (ht : ∀ b, t.size b = 1) (hφ) (hacc) (j : t.Idx) :
    multiReduction .maximumf axes t src 0xFF800000#32 h hφ hacc j = Finset.univ.sup (src : s.Idx → EReal) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [multiReduction_maximumf_eq_fold, all_dropped h ht, neg_inf_f32]
  rfl

/-- A whole vector's least word is no greater than any entry, and is an entry or the initial word. -/
theorem total_min (src : IVec s 32) (h : s.Reduces axes t) (ht : ∀ b, t.size b = 1) (hacc) (j : t.Idx) :
    (∀ i, (multiReductionI .minsi axes t src 2147483647#32 h hacc j).toInt ≤ (src i).toInt)
      ∧ ((multiReductionI .minsi axes t src 2147483647#32 h hacc j) = 2147483647#32
        ∨ ∃ i, (multiReductionI .minsi axes t src 2147483647#32 h hacc j) = src i) := by
  rw [multiReductionI_eq_fold, all_dropped h ht]
  suffices H : ∀ S : Finset s.Idx,
      (∀ i ∈ S, (S.fold IKind.minsi.op 2147483647#32 src).toInt ≤ (src i).toInt)
        ∧ ((S.fold IKind.minsi.op 2147483647#32 src) = 2147483647#32 ∨ ∃ i, (S.fold IKind.minsi.op 2147483647#32 src) = src i) by
    exact ⟨fun i => (H Finset.univ).1 i (Finset.mem_univ i), (H Finset.univ).2⟩
  intro S
  classical
  induction S using Finset.induction_on with
  | empty => exact ⟨fun i hi => absurd hi (Finset.notMem_empty i), .inl rfl⟩
  | insert a S ha ih =>
    rw [Finset.fold_insert ha]
    generalize S.fold IKind.minsi.op 2147483647#32 src = r at ih ⊢
    show (∀ i ∈ insert a S, (IntOp.minsi (src a) r).toInt ≤ (src i).toInt) ∧ (IntOp.minsi (src a) r = _ ∨ ∃ i, IntOp.minsi (src a) r = src i)
    unfold IntOp.minsi
    by_cases hlt : (src a).slt r
    · rw [if_pos hlt]
      rw [BitVec.slt_iff_toInt_lt] at hlt
      refine ⟨fun i hi => ?_, .inr ⟨a, rfl⟩⟩
      rcases Finset.mem_insert.1 hi with rfl | hi
      · exact le_rfl
      · exact hlt.le.trans (ih.1 i hi)
    · rw [if_neg hlt]
      rw [BitVec.slt_iff_toInt_lt] at hlt
      refine ⟨fun i hi => ?_, ih.2⟩
      rcases Finset.mem_insert.1 hi with rfl | hi
      · exact not_lt.1 hlt
      · exact ih.1 i hi

/-- A supremum over a recast vector is the vector's. -/
theorem sup_cast (v : s.Idx → EReal) (h : s.ShapeCasts s') :
    Finset.univ.sup (shapeCast s' v h) = Finset.univ.sup v := by
  refine le_antisymm (Finset.sup_le fun j _ => Finset.le_sup (f := v) (Finset.mem_univ (Shape.reshapeEquiv h j))) (Finset.sup_le fun i _ => ?_)
  have := Finset.le_sup (f := shapeCast s' v h) (Finset.mem_univ ((Shape.reshapeEquiv h).symm i))
  unfold shapeCast at this
  rwa [Equiv.apply_symm_apply] at this

/-- A sum over a recast vector is the vector's. -/
theorem sum_cast (v : s.Idx → EReal) (h : s.ShapeCasts s') : ∑ i, shapeCast s' v h i = ∑ i, v i :=
  Equiv.sum_comp (Shape.reshapeEquiv h) v

/-- The entries of a shape in a line: the indices `e 0 … e (n - 1)`, each once. -/
def Line (n : ℕ) (e : Fin n → s.Idx) : Prop := Function.Bijective e

theorem row_line (n : ℕ) : Line (s := ⟨2, ![1, n]⟩) n (fun q => ValueIdx.ix2 (0 : Fin 1) q) :=
  ⟨fun a b h => by have := congrFun h 1; exact this, fun i => ⟨i 1, ((ValueIdx.eq_ix2 i).trans (congrArg (fun z => ValueIdx.ix2 z (i 1)) (Subsingleton.elim (α := Fin 1) (i 0) 0))).symm⟩⟩

theorem col_line (n : ℕ) : Line (s := ⟨2, ![n, 1]⟩) n (fun q => ValueIdx.ix2 q (0 : Fin 1)) :=
  ⟨fun a b h => by have := congrFun h 0; exact this, fun i => ⟨i 0, ((ValueIdx.eq_ix2 i).trans (congrArg (fun z => ValueIdx.ix2 (i 0) z) (Subsingleton.elim (α := Fin 1) (i 1) 0))).symm⟩⟩

theorem vec_line (n : ℕ) : Line (s := ⟨1, ![n]⟩) n (fun q => ValueIdx.ix1 q) :=
  ⟨fun a b h => by have := congrFun h 0; exact this, fun i => ⟨i 0, (ValueIdx.eq_ix1 i).symm⟩⟩

/-- The supremum along a line. -/
theorem sup_line {n : ℕ} {e : Fin n → s.Idx} (he : Line n e) {v : s.Idx → EReal} {x : ℕ → EReal} (hv : ∀ q : Fin n, v (e q) = x q) :
    Finset.univ.sup v = (Finset.range n).sup x := by
  refine le_antisymm (Finset.sup_le fun i _ => ?_) (Finset.sup_le fun q hq => ?_)
  · obtain ⟨q, rfl⟩ := he.2 i
    rw [hv]; exact Finset.le_sup (f := x) (Finset.mem_range.2 q.isLt)
  · have := Finset.le_sup (f := v) (Finset.mem_univ (e ⟨q, Finset.mem_range.1 hq⟩))
    rwa [hv] at this

/-- The sum along a line. -/
theorem sum_line {n : ℕ} {e : Fin n → s.Idx} (he : Line n e) {v : s.Idx → EReal} {x : ℕ → EReal} (hv : ∀ q : Fin n, v (e q) = x q) :
    ∑ i, v i = ∑ q ∈ Finset.range n, x q := by
  rw [← (Equiv.ofBijective e he).sum_comp v, Finset.sum_range]
  exact Finset.sum_congr rfl fun q _ => hv q

/-- The least position at which a vector equals its greatest value, kept as the body computes it, is the first position
    of the greatest value. -/
theorem least_eq_first {n N : ℕ} (hn : 0 < n) (hN : n ≤ N) (hN' : N < 2147483647) {e : Fin n → s.Idx} (he : Line n e) (v : FVec Ideal s .f32) (io : IVec s 32) (hc : s.ShapeCasts s')
    {axes : List (Fin s'.rank)} (h : s'.Reduces axes t) (ht : ∀ b, t.size b = 1) (hacc) (j : t.Idx)
    {x : ℕ → EReal} (hv : ∀ q : Fin n, v (e q) = x q) (hio : ∀ q : Fin n, io (e q) = BitVec.ofNat 32 q.val)
    (M : EReal) (hM : M = (Finset.range n).sup x) :
    ∃ q, FirstMax n x q ∧ multiReductionI .minsi axes t
      (shapeCast s' (select (cmpf (F := Ideal) (φ := .f32) .oeq v (broadcast s M)) io (broadcast s (BitVec.ofNat 32 N))) hc) 2147483647#32 h hacc j
        = BitVec.ofNat 32 q := by
  obtain ⟨q, hq⟩ := exists_firstMax n hn x
  refine ⟨q, hq, ?_⟩
  have hMq : M = x q := hM.trans hq.sup_eq
  have hval : ∀ k : Fin n, (select (cmpf (F := Ideal) (φ := .f32) .oeq v (broadcast s M)) io (broadcast s (BitVec.ofNat 32 N))) (e k)
      = if x k = x q then BitVec.ofNat 32 k.val else BitVec.ofNat 32 N := by
    intro k
    show (if (cmpf (F := Ideal) (φ := .f32) .oeq v (broadcast s M)) (e k) = 1#1 then io (e k) else BitVec.ofNat 32 N) = _
    rw [hio k]
    have hcmp : (cmpf (F := Ideal) (φ := .f32) .oeq v (broadcast s M)) (e k) = BitVec.ofBool (decide (x k = x q)) := by
      show BitVec.ofBool (decide (v (e k) = M)) = _
      rw [hv k, hMq]
    rw [hcmp]
    by_cases hk : x k = x q <;> simp [hk]
  have hint : ∀ k : ℕ, k < 2147483647 → (BitVec.ofNat 32 k).toInt = (k : ℤ) := fun k hk => by
    rw [BitVec.toInt_ofNat']; norm_num; rw [Int.bmod_def]; split_ifs <;> omega
  obtain ⟨hle, hor⟩ := total_min (shapeCast s' (select (cmpf (F := Ideal) (φ := .f32) .oeq v (broadcast s M)) io (broadcast s (BitVec.ofNat 32 N))) hc) h ht hacc j
  have hqle := hle ((Shape.reshapeEquiv hc).symm (e ⟨q, hq.1⟩))
  rw [show (shapeCast s' (select (cmpf (F := Ideal) (φ := .f32) .oeq v (broadcast s M)) io (broadcast s (BitVec.ofNat 32 N))) hc) ((Shape.reshapeEquiv hc).symm (e ⟨q, hq.1⟩)) = BitVec.ofNat 32 q by
    unfold shapeCast; rw [Equiv.apply_symm_apply, hval]; exact if_pos rfl] at hqle
  have hqn := hq.1
  rcases hor with hr | ⟨i, hr⟩
  · rw [hr, hint q (by omega)] at hqle
    have : (2147483647#32 : BitVec 32).toInt = 2147483647 := by decide
    omega
  · obtain ⟨k, hk⟩ := he.2 (Shape.reshapeEquiv hc i)
    have hr' := hr
    rw [show (shapeCast s' (select (cmpf (F := Ideal) (φ := .f32) .oeq v (broadcast s M)) io (broadcast s (BitVec.ofNat 32 N))) hc) i = if x k = x q then BitVec.ofNat 32 k.val else BitVec.ofNat 32 N by
      unfold shapeCast; rw [← hk, hval]] at hr'
    rw [hr']
    rw [hr', hint q (by omega)] at hqle
    have hkn := k.isLt
    by_cases hx : x k = x q
    · rw [if_pos hx] at hqle ⊢
      rw [hint k.val (by omega)] at hqle
      have hkq : k.val ≤ q := by omega
      rcases hkq.lt_or_eq with hlt | heq
      · exact absurd hx (hq.2.2 k.val hlt).ne
      · rw [heq]
    · rw [if_neg hx, hint N (by omega)] at hqle
      omega

/-- The value standing at one position, kept as the body computes it: the greatest of the values where only that
    position's is not −∞. -/
theorem pick_at {n : ℕ} (hn : n < 4294967296) {e : Fin n → s.Idx} (he : Line n e) (v : FVec Ideal s .f32) (io : IVec s 32) (hc : s.ShapeCasts s')
    {axes : List (Fin s'.rank)} (h : s'.Reduces axes t) (ht : ∀ b, t.size b = 1) (hφ) (hacc) (j : t.Idx)
    {x : ℕ → EReal} (hv : ∀ q : Fin n, v (e q) = x q) (hio : ∀ q : Fin n, io (e q) = BitVec.ofNat 32 q.val) (q : ℕ) (hq : q < n) :
    multiReduction .maximumf axes t
      (shapeCast s' (select (cmpi .eq io (broadcast s (BitVec.ofNat 32 q))) v (broadcast s (FloatOps.ofBits (F := Ideal) .f32 0xFF800000#32))) hc) 0xFF800000#32 h hφ hacc j
        = x q := by
  rw [total_max _ h ht, sup_cast]
  have hval : ∀ k : Fin n, (select (cmpi .eq io (broadcast s (BitVec.ofNat 32 q))) v (broadcast s (FloatOps.ofBits (F := Ideal) .f32 0xFF800000#32))) (e k)
      = if k.val = q then x q else ⊥ := by
    intro k
    show (if (BitVec.ofBool (io (e k) == BitVec.ofNat 32 q)) = 1#1 then v (e k) else FloatOps.ofBits (F := Ideal) .f32 0xFF800000#32) = _
    rw [hio k, hv k, neg_inf_f32]
    by_cases hk : k.val = q
    · subst hk; simp
    · rw [if_neg hk, if_neg]
      intro hh
      have : (BitVec.ofNat 32 k.val == BitVec.ofNat 32 q) = true := by
        by_contra hne; rw [Bool.not_eq_true] at hne; rw [hne] at hh; exact absurd hh (by decide)
      have h2 := congrArg BitVec.toNat (eq_of_beq this)
      have := k.isLt
      rw [BitVec.toNat_ofNat, BitVec.toNat_ofNat, Nat.mod_eq_of_lt (by omega), Nat.mod_eq_of_lt (by omega)] at h2
      exact hk h2
  rw [sup_line he (x := fun k => if k = q then x q else ⊥) hval]
  refine le_antisymm (Finset.sup_le fun k _ => ?_) ?_
  · split_ifs
    · exact le_rfl
    · exact bot_le
  · have := Finset.le_sup (f := fun k => if k = q then x q else ⊥) (Finset.mem_range.2 hq)
    simpa using this

end Cert.Proof
-- ==== Proof.Common.lean ====
/-
  What the modules of this proof share: the resource algebra of the pipelines' staging cells, the reading of a
  whole buffer, and the run of the padding kernel's body.
-/
module

public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton
public import Idealize.ShloMosaic.Lib.Pipeline.FrameBody
public import Idealize.ShloMosaic.Lib.Tactic
public import Idealize.ShloMosaic.Lib.Ring
public import Idealize.ShloMosaic.Lib.VecWindow

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The zero offsets of a two-axis buffer. -/
theorem hz2 : (![0, 0] : Fin 2 → Nat) = fun _ => 0 := funext fun a => by fin_cases a <;> rfl
/-- The zero offset of a one-axis buffer. -/
theorem hz1 : (![0] : Fin 1 → Nat) = fun _ => 0 := funext fun a => by fin_cases a; rfl

/-- The padding body, from its result's buffer at any contents, leaves the named constant on every lane. -/
theorem padRun (c : Dev nD) (M : Memref sig .tc .vmem S2400 .f32) (h : M.IsWhole) (X : S2400.Idx → Elt F .f32)
    (Q : PUnit → sProp 𝕄) :
    iprop(owns (c : Thread nD τ) M fullShare X
        ∗ (iprop(owns (c : Thread nD τ) M fullShare (k0_pay1 (F := F))) -∗ Q ⟨⟩))
      ⊢ wp frame (wpE (defs₀ (F := F)) Variants.none c none) Set.univ (cc0__pad_body M h) Q := by
  unfold owns
  iintro ⟨⟨%f, %hf, H⟩, Hk⟩
  rw [cc0__pad_body_eq_skeleton]; unfold cc0__pad_body_skel
  sl_exec
  sl_step
  iapply Hk
  iexists _
  isplitr
  on_goal 2 => iexact H
  ipureintro
  exact View.read_writes_full _ _ _ _ _

end Cert.Proof

end
-- ==== Proof.BodyCritic.lean ====
/-
  The run of the critic's body: from its nine inputs' buffers it leaves the index it picked in the first result's
  buffer and the hidden layer of the picked row in the second's.
-/
module

public import proofs.«01_k».proof.Proof.Common

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The index the critic picks: the word its reductions leave. -/
def pick (x : Vec F S10000x128 .f32) (g : Vec F S10000x1 .f32) (io : Vec F S10000x1 .i32) (w1 : Vec F S128x256 .f32)
    (b1 : Vec F S1x256 .f32) (w2 : Vec F S256x1 .f32) (b2 : Vec F S1x1 .f32) : BitVec 32 :=
  extractAt ![0, 0, 0] (k1_pay2 x w1 b1 w2 b2 g io) inpos_S1x1x1_p0_0_0

/-- The hidden layer the critic leaves for the row at `n`. -/
def hid (x : Vec F S10000x128 .f32) (n : BitVec 32) (hn : k1_chk1 n) (w : Vec F S128x256 .f32) (b : Vec F S1x256 .f32) :
    Vec F S1x256 .f32 :=
  k1_pay1 (VecWindow.window x (k1_off1 n) S1x128.size (k1_off1_inb n hn)) w b

/-- A load of the row at `n` reads that row of what the buffer reads. -/
theorem readAt_row (M : Memref sig .tc .vmem S10000x128 .f32) (f : M.view.ty.Contents (Elt F)) (n n' : BitVec 32)
    (e : n = n') (h : k1_chk1 n) (h' : k1_chk1 n') :
    M.view.readAt (Elt F) (Rect.unit (s := S10000x128) (k1_off1 n) S1x128.size (k1_off1_inb n h)).toLoadRect f
      = VecWindow.window (M.view.read (Elt F) f) (k1_off1 n') S1x128.size (k1_off1_inb n' h') := by
  subst e; exact View.readAt_unit _ _ _ rfl _

set_option maxHeartbeats 1000000 in
set_option maxRecDepth 65536 in
/-- The body's run. -/
theorem criticRun (c : Dev nD)
    (M0 : Memref sig .tc .vmem S10000x128 .f32) (h0 : M0.IsWhole) (M1 : Memref sig .tc .vmem S10000x1 .f32) (h1 : M1.IsWhole)
    (M2 : Memref sig .tc .vmem S10000x1 .i32) (h2 : M2.IsWhole) (M3 : Memref sig .tc .vmem S128x256 .f32) (h3 : M3.IsWhole)
    (M4 : Memref sig .tc .vmem S1x256 .f32) (h4 : M4.IsWhole) (M5 : Memref sig .tc .vmem S256x1 .f32) (h5 : M5.IsWhole)
    (M6 : Memref sig .tc .vmem S1x1 .f32) (h6 : M6.IsWhole) (M7 : Memref sig .tc .vmem S128x256 .f32) (h7 : M7.IsWhole)
    (M8 : Memref sig .tc .vmem S1x256 .f32) (h8 : M8.IsWhole) (M9 : Memref sig .tc .smem S1 .i32) (h9 : M9.IsWhole)
    (M10 : Memref sig .tc .vmem S1x256 .f32) (h10 : M10.IsWhole)
    (X0 : Vec F S10000x128 .f32) (X1 : Vec F S10000x1 .f32) (X2 : Vec F S10000x1 .i32) (X3 : Vec F S128x256 .f32)
    (X4 : Vec F S1x256 .f32) (X5 : Vec F S256x1 .f32) (X6 : Vec F S1x1 .f32) (X7 : Vec F S128x256 .f32)
    (X8 : Vec F S1x256 .f32) (X9 : Vec F S1 .i32) (X10 : Vec F S1x256 .f32)
    (hchk : k1_chk1 (pick X0 X1 X2 X3 X4 X5 X6)) (Q : PUnit → sProp 𝕄) :
    iprop((owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8
        ∗ owns (c : Thread nD τ) M9 fullShare X9 ∗ owns (c : Thread nD τ) M10 fullShare X10)
        ∗ (iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8
        ∗ owns (c : Thread nD τ) M9 fullShare (fun _ => pick X0 X1 X2 X3 X4 X5 X6)
        ∗ owns (c : Thread nD τ) M10 fullShare (hid X0 _ hchk X7 X8)) -∗ Q ⟨⟩))
      ⊢ wp frame (wpE (defs₀ (F := F)) Variants.none c none) Set.univ
          (cc1__critic_body M0 h0 M1 h1 M2 h2 M3 h3 M4 h4 M5 h5 M6 h6 M7 h7 M8 h8 M9 h9 M10 h10) Q := by
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩⟩, Hk⟩
  subst hf0 hf1 hf2 hf3 hf4 hf5 hf6 hf7 hf8
  rw [cc1__critic_body_eq_skeleton]; unfold cc1__critic_body_skel
  rw [k1_part1_eq_skeleton]; unfold k1_part1_skel
  sl_exec
  have hv : criticRun.sl.v29 c M0 M1 M2 M3 M4 M5 M6 f0 f1 f2 f3 f4 f5 f6
      = pick (M0.view.read (Elt F) f0) (M1.view.read (Elt F) f1) (M2.view.read (Elt F) f2) (M3.view.read (Elt F) f3)
          (M4.view.read (Elt F) f4) (M5.view.read (Elt F) f5) (M6.view.read (Elt F) f6) := by
    unfold criticRun.sl.v29 pick
    rw [View.readAt_full M0.view f0, View.readAt_full M1.view f1, View.readAt_full M2.view f2, View.readAt_full M3.view f3,
      View.readAt_full M4.view f4, View.readAt_full M5.view f5, View.readAt_full M6.view f6]
  have hk : k1_chk1 (criticRun.sl.v29 c M0 M1 M2 M3 M4 M5 M6 f0 f1 f2 f3 f4 f5 f6) := hv ▸ hchk
  sl_exec
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    on_goal 2 => iexact H9
    ipureintro
    rw [View.read_writes_full, hv]; rfl
  · iexists _; isplitr
    on_goal 2 => iexact H10
    ipureintro
    rw [View.read_writes_full]
    unfold criticRun.sl.v32 hid
    rw [View.readAt_full M7.view f7, View.readAt_full M8.view f8]
    exact congrArg (fun z => k1_pay1 z _ _) (readAt_row M0 f0 _ _ hv hk hchk)

end Cert.Proof

end
-- ==== Proof.BodyActor.lean ====
/-
  The run of the actor's body at one grid point: what it leaves in the four carried words, the carried index and,
  at the last point, the two results, from what it found in them.
-/
module

public import proofs.«01_k».proof.Proof.Common
public import Idealize.ShloMosaic.Lib.ValueIdxCore

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first grid point's condition, as the body computes it. -/
abbrev isFirst (i : grid2.Coords) : Prop :=
  Scalar.cmpi .ne (Scalar.extui (Scalar.cmpi .eq (BitVec.ofNat 32 (i 0).val) 0#32) : BitVec 32) 0#32 = 1#1

/-- The condition under which a tile's best score replaces the running one, as the body computes it. -/
abbrev took (X1 : Vec F S1x256 .f32) (X3 : Vec F S256x4096 .f32) (X5 : Vec F S1x4096 .f32) (p0 : F .f32) : Prop :=
  Scalar.cmpi .ne (Scalar.extui (Scalar.cmpf .ogt (k2_pay9 X1 X3 X5) p0) : BitVec 32) 0#32 = 1#1

/-- The best score after a tile. -/
def nxt0 (X1 : Vec F S1x256 .f32) (X3 : Vec F S256x4096 .f32) (X5 : Vec F S1x4096 .f32) (p0 : F .f32) : F .f32 :=
  if took X1 X3 X5 p0 then k2_pay9 X1 X3 X5 else p0
/-- The masked logit at the best score. -/
def nxt1 (X1 : Vec F S1x256 .f32) (X2 : Vec F S1x4096 .i32) (X3 : Vec F S256x4096 .f32) (X4 X5 : Vec F S1x4096 .f32)
    (p0 p1 : F .f32) : F .f32 :=
  if took X1 X3 X5 p0 then k2_pay2 (k2_pay5 X1 X3 X4) (k2_pay6 X1 X3 X5) (k2_pay9 X1 X3 X5) X2 X2 else p1
/-- The index of the best score. -/
def nxti (i : grid2.Coords) (X1 : Vec F S1x256 .f32) (X2 : Vec F S1x4096 .i32) (X3 : Vec F S256x4096 .f32) (X5 : Vec F S1x4096 .f32)
    (p0 : F .f32) (pi : BitVec 32) : BitVec 32 :=
  if took X1 X3 X5 p0 then
    Scalar.addi (Scalar.muli (BitVec.ofNat 32 (i 0).val) 4096#32)
      (extractAt ![0, 0, 0] (k2_pay1 (k2_pay6 X1 X3 X5) (k2_pay9 X1 X3 X5) X2) inpos_S1x1x1_p0_0_0)
  else pi

/-- Position `k` of a four-word buffer. -/
abbrev i4 (k : Fin 4) : S4.Idx := ValueIdx.ix1 k
/-- Four words as a four-word buffer's contents. -/
def W4 {e : EltTy} (a b c d : Elt F e) : Vec F S4 e := fun j =>
  if (j 0).val = 0 then a else if (j 0).val = 1 then b else if (j 0).val = 2 then c else d

theorem eq_i4 (j : S4.Idx) : ∃ k, j = i4 k := ⟨j 0, ValueIdx.eq_ix1 j⟩

/-- Reading one word after a one-word store. -/
theorem rd4_cons {sp : Space} {e : EltTy} (v : View sig .tc sp S4 e) (f : v.ty.Contents (Elt F)) (k : ℕ)
    (inb : ∀ a, (![k] : Fin 1 → ℕ) a + S1.size a ≤ S4.size a) (w : Elt F e) (L : List (View.Piece (Elt F) S4 e)) (j : Fin 4) :
    v.read (Elt F) (v.writes (Elt F) f ((⟨Rect.unit (s := S4) ![k] S1.size inb, fun _ => w⟩ : View.Piece (Elt F) S4 e) :: L)) (i4 j)
      = if j.val = k then w else v.read (Elt F) (v.writes (Elt F) f L) (i4 j) := by
  split
  · next h =>
    refine View.read_writes_cons_unit_of_mem v f inb (fun _ => w) L (i4 j) (ValueIdx.ix1 (0 : Fin 1)) rfl fun a => ?_
    match a with | ⟨0, _⟩ => exact h
  · next h =>
    refine View.read_writes_cons_unit_of_not_mem v f inb (fun _ => w) L (i4 j) rfl 0 ?_
    show j.val < k ∨ k + 1 ≤ j.val
    omega
theorem W4_apply {e : EltTy} (a b c d : Elt F e) (k : Fin 4) :
    W4 a b c d (i4 k) = if k.val = 0 then a else if k.val = 1 then b else if k.val = 2 then c else d := rfl
theorem hW0 {e : EltTy} (a b c d : Elt F e) (h : 0 < 4) : W4 a b c d (i4 ⟨0, h⟩) = a := rfl
theorem hW1 {e : EltTy} (a b c d : Elt F e) (h : 1 < 4) : W4 a b c d (i4 ⟨1, h⟩) = b := rfl
theorem hW2 {e : EltTy} (a b c d : Elt F e) (h : 2 < 4) : W4 a b c d (i4 ⟨2, h⟩) = c := rfl
theorem hW3 {e : EltTy} (a b c d : Elt F e) (h : 3 < 4) : W4 a b c d (i4 ⟨3, h⟩) = d := rfl
/-- A one-word load reads its word. -/
theorem rd4_load {sp : Space} {e : EltTy} (v : View sig .tc sp S4 e) (f : v.ty.Contents (Elt F)) (k : ℕ) (hk : k < 4)
    (inb : ∀ a, (![k] : Fin 1 → ℕ) a + S1.size a ≤ S4.size a) (h) :
    v.readAt (Elt F) (Rect.unit (s := S4) ![k] S1.size inb).toLoadRect f (Shape.Idx.first h) = v.read (Elt F) f (i4 ⟨k, hk⟩) := by
  refine congrArg (v.read (Elt F) f) (funext fun a => Fin.ext ?_)
  match a with | ⟨0, _⟩ => rfl
/-- The same of a one-word buffer: whatever was there, what was stored last is read. -/
theorem rd1_cons {sp : Space} {e : EltTy} (v : View sig .tc sp S1 e) (f : v.ty.Contents (Elt F))
    (inb : ∀ a, (![0] : Fin 1 → ℕ) a + S1.size a ≤ S1.size a) (w : Elt F e) (L : List (View.Piece (Elt F) S1 e)) :
    v.read (Elt F) (v.writes (Elt F) f ((⟨Rect.unit (s := S1) ![0] S1.size inb, fun _ => w⟩ : View.Piece (Elt F) S1 e) :: L))
      = fun _ => w := View.read_writes_full v f inb _ L
/-- The two readings with the stored extent written out. -/
theorem rd4_cons' {sp : Space} {e : EltTy} (v : View sig .tc sp S4 e) (f : v.ty.Contents (Elt F)) (k : ℕ)
    (inb : ∀ a, (![k] : Fin 1 → ℕ) a + (![1] : Fin 1 → ℕ) a ≤ S4.size a) (w : Elt F e) (L : List (View.Piece (Elt F) S4 e)) (j : Fin 4) :
    v.read (Elt F) (v.writes (Elt F) f ((⟨Rect.unit (s := S4) ![k] ![1] inb, fun _ => w⟩ : View.Piece (Elt F) S4 e) :: L)) (i4 j)
      = if j.val = k then w else v.read (Elt F) (v.writes (Elt F) f L) (i4 j) := rd4_cons v f k inb w L j
theorem rd1_cons' {sp : Space} {e : EltTy} (v : View sig .tc sp S1 e) (f : v.ty.Contents (Elt F))
    (inb : ∀ a, (![0] : Fin 1 → ℕ) a + (![1] : Fin 1 → ℕ) a ≤ S1.size a) (w : Elt F e) (L : List (View.Piece (Elt F) S1 e)) :
    v.read (Elt F) (v.writes (Elt F) f ((⟨Rect.unit (s := S1) ![0] ![1] inb, fun _ => w⟩ : View.Piece (Elt F) S1 e) :: L))
      = fun _ => w := rd1_cons v f inb w L
/-- The two words a tile always stores, the other two kept. -/
theorem w4_two {e : EltTy} (a b c d c' d' : Elt F e) (k : Fin 4) :
    (if k.val = 2 then c' else if k.val = 3 then d' else W4 a b c d (i4 k)) = W4 a b c' d' (i4 k) := by
  obtain ⟨k, hk⟩ := k; rw [W4_apply, W4_apply]
  interval_cases k <;> rfl
/-- All four words stored. -/
theorem w4_four {e : EltTy} (a b c d r : Elt F e) (k : Fin 4) :
    (if k.val = 1 then b else if k.val = 0 then a else if k.val = 2 then c else if k.val = 3 then d else r) = W4 a b c d (i4 k) := by
  obtain ⟨k, hk⟩ := k; rw [W4_apply]
  interval_cases k <;> rfl
/-- A load of a one-word buffer reads its word. -/
theorem rd1_load {sp : Space} {e : EltTy} (v : View sig .tc sp S1 e) (f : v.ty.Contents (Elt F))
    (inb : ∀ a, (![0] : Fin 1 → ℕ) a + S1.size a ≤ S1.size a) (h) :
    v.readAt (Elt F) (Rect.unit (s := S1) ![0] S1.size inb).toLoadRect f (Shape.Idx.first h) = v.read (Elt F) f (ValueIdx.ix1 (0 : Fin 1)) := by
  refine congrArg (v.read (Elt F) f) (funext fun a => Fin.ext ?_)
  match a with | ⟨0, _⟩ => rfl

set_option maxHeartbeats 2000000 in
set_option maxRecDepth 65536 in
/-- The body's run at the first point. -/
theorem actorRunA (c : Dev nD) (i : grid2.Coords)
    (M1 : Memref sig .tc .vmem S1x256 .f32) (h1 : M1.IsWhole) (M2 : Memref sig .tc .vmem S1x4096 .i32) (h2 : M2.IsWhole)
    (M3 : Memref sig .tc .vmem S256x4096 .f32) (h3 : M3.IsWhole) (M4 : Memref sig .tc .vmem S1x4096 .f32) (h4 : M4.IsWhole)
    (M5 : Memref sig .tc .vmem S1x4096 .f32) (h5 : M5.IsWhole) (M6 : Memref sig .tc .smem S1 .i32) (h6 : M6.IsWhole)
    (M7 : Memref sig .tc .smem S1 .f32) (h7 : M7.IsWhole) (M8 : Memref sig .tc .smem S4 .f32) (h8 : M8.IsWhole)
    (M9 : Memref sig .tc .smem S1 .i32) (h9 : M9.IsWhole)
    (X1 : Vec F S1x256 .f32) (X2 : Vec F S1x4096 .i32) (X3 : Vec F S256x4096 .f32) (X4 X5 : Vec F S1x4096 .f32)
    (X6 : Vec F S1 .i32) (X7 : Vec F S1 .f32) (X8 : Vec F S4 .f32) (X9 : Vec F S1 .i32)
    (hf : isFirst i) (hl : ¬k2_cond3 i = 1#1) (Q : PUnit → sProp 𝕄) :
    iprop((owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8
        ∗ owns (c : Thread nD τ) M9 fullShare X9)
        ∗ (iprop(owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare (W4 (nxt0 X1 X3 X5 (FloatOps.ofBits .f32 0xFF800000#32)) (nxt1 X1 X2 X3 X4 X5 (FloatOps.ofBits .f32 0xFF800000#32) (FloatOps.ofBits .f32 0x00000000#32)) (k2_pay7 X1 X3 X4 (FloatOps.ofBits .f32 0xFF800000#32)) (k2_pay8 X1 X3 X4 (FloatOps.ofBits .f32 0xFF800000#32) (FloatOps.ofBits .f32 0x00000000#32)))
        ∗ owns (c : Thread nD τ) M9 fullShare (fun _ => (nxti i X1 X2 X3 X5 (FloatOps.ofBits .f32 0xFF800000#32) 0#32))) -∗ Q ⟨⟩))
      ⊢ wp frame (wpE (defs₀ (F := F)) Variants.none c none) Set.univ
          (cc2__actor_body i M1 h1 M2 h2 M3 h3 M4 h4 M5 h5 M6 h6 M7 h7 M8 h8 M9 h9) Q := by
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩⟩, Hk⟩
  have e1 := View.readAt_full (Val := Elt F) M1.view f1 inb_S1x256_S1x256_0_0
  have e2 := View.readAt_full (Val := Elt F) M2.view f2 inb_S1x4096_S1x4096_0_0
  have e3 := View.readAt_full (Val := Elt F) M3.view f3 inb_S256x4096_S256x4096_0_0
  have e4 := View.readAt_full (Val := Elt F) M4.view f4 inb_S1x4096_S1x4096_0_0
  have e5 := View.readAt_full (Val := Elt F) M5.view f5 inb_S1x4096_S1x4096_0_0
  rw [hf1] at e1; rw [hf2] at e2; rw [hf3] at e3; rw [hf4] at e4; rw [hf5] at e5
  rw [cc2__actor_body_eq_skeleton]; unfold cc2__actor_body_skel
  rw [k2_part1_eq_skeleton]; unfold k2_part1_skel
  sl_exec
  sl_unfold_words
  sl_step
  iapply Hk
  isplitl [H1]
  · iexists _; isplitr
    on_goal 2 => iexact H1
    ipureintro; exact hf1
  isplitl [H2]
  · iexists _; isplitr
    on_goal 2 => iexact H2
    ipureintro; exact hf2
  isplitl [H3]
  · iexists _; isplitr
    on_goal 2 => iexact H3
    ipureintro; exact hf3
  isplitl [H4]
  · iexists _; isplitr
    on_goal 2 => iexact H4
    ipureintro; exact hf4
  isplitl [H5]
  · iexists _; isplitr
    on_goal 2 => iexact H5
    ipureintro; exact hf5
  isplitl [H6]
  · iexists _; isplitr
    on_goal 2 => iexact H6
    ipureintro; exact hf6
  isplitl [H7]
  · iexists _; isplitr
    on_goal 2 => iexact H7
    ipureintro; exact hf7
  isplitl [H8]
  · iexists _; isplitr
    on_goal 2 => iexact H8
    ipureintro
    simp only [e1, e2, e3, e4, e5]
    unfold nxt0 nxt1
    funext j
    obtain ⟨k, rfl⟩ := eq_i4 j
    by_cases hc : took X1 X3 X5 (FloatOps.ofBits .f32 0xFF800000#32)
    · simp only [dif_pos hc, if_pos hc, rd4_cons, rd4_cons']
      exact w4_four _ _ _ _ _ k
    · simp only [dif_neg hc, if_neg hc, rd4_cons, rd4_cons']
      rw [W4_apply]; have := k.isLt; split_ifs <;> first | rfl | (exfalso; omega)
  · iexists _; isplitr
    on_goal 2 => iexact H9
    ipureintro
    simp only [e1, e2, e3, e5]
    unfold nxti
    by_cases hc : took X1 X3 X5 (FloatOps.ofBits .f32 0xFF800000#32)
    · simp only [dif_pos hc, if_pos hc, rd1_cons, rd1_cons']
    · simp only [dif_neg hc, if_neg hc]
      exact rd1_cons' _ _ _ _ _

set_option maxHeartbeats 2000000 in
set_option maxRecDepth 65536 in
/-- The body's run at a point between. -/
theorem actorRunB (c : Dev nD) (i : grid2.Coords)
    (M1 : Memref sig .tc .vmem S1x256 .f32) (h1 : M1.IsWhole) (M2 : Memref sig .tc .vmem S1x4096 .i32) (h2 : M2.IsWhole)
    (M3 : Memref sig .tc .vmem S256x4096 .f32) (h3 : M3.IsWhole) (M4 : Memref sig .tc .vmem S1x4096 .f32) (h4 : M4.IsWhole)
    (M5 : Memref sig .tc .vmem S1x4096 .f32) (h5 : M5.IsWhole) (M6 : Memref sig .tc .smem S1 .i32) (h6 : M6.IsWhole)
    (M7 : Memref sig .tc .smem S1 .f32) (h7 : M7.IsWhole) (M8 : Memref sig .tc .smem S4 .f32) (h8 : M8.IsWhole)
    (M9 : Memref sig .tc .smem S1 .i32) (h9 : M9.IsWhole)
    (X1 : Vec F S1x256 .f32) (X2 : Vec F S1x4096 .i32) (X3 : Vec F S256x4096 .f32) (X4 X5 : Vec F S1x4096 .f32)
    (X6 : Vec F S1 .i32) (X7 : Vec F S1 .f32) (p0 p1 p2 p3 : F .f32) (pi : BitVec 32)
    (hf : ¬isFirst i) (hl : ¬k2_cond3 i = 1#1) (Q : PUnit → sProp 𝕄) :
    iprop((owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare (W4 p0 p1 p2 p3)
        ∗ owns (c : Thread nD τ) M9 fullShare (fun _ => pi))
        ∗ (iprop(owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare (W4 (nxt0 X1 X3 X5 p0) (nxt1 X1 X2 X3 X4 X5 p0 p1) (k2_pay7 X1 X3 X4 p2) (k2_pay8 X1 X3 X4 p2 p3))
        ∗ owns (c : Thread nD τ) M9 fullShare (fun _ => (nxti i X1 X2 X3 X5 p0 pi))) -∗ Q ⟨⟩))
      ⊢ wp frame (wpE (defs₀ (F := F)) Variants.none c none) Set.univ
          (cc2__actor_body i M1 h1 M2 h2 M3 h3 M4 h4 M5 h5 M6 h6 M7 h7 M8 h8 M9 h9) Q := by
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩⟩, Hk⟩
  have e1 := View.readAt_full (Val := Elt F) M1.view f1 inb_S1x256_S1x256_0_0
  have e2 := View.readAt_full (Val := Elt F) M2.view f2 inb_S1x4096_S1x4096_0_0
  have e3 := View.readAt_full (Val := Elt F) M3.view f3 inb_S256x4096_S256x4096_0_0
  have e4 := View.readAt_full (Val := Elt F) M4.view f4 inb_S1x4096_S1x4096_0_0
  have e5 := View.readAt_full (Val := Elt F) M5.view f5 inb_S1x4096_S1x4096_0_0
  rw [hf1] at e1; rw [hf2] at e2; rw [hf3] at e3; rw [hf4] at e4; rw [hf5] at e5
  have l0 : ∀ h, M8.view.readAt (Elt F) (Rect.unit (s := S4) ![0] S1.size inb_S4_S1_0).toLoadRect f8 (Shape.Idx.first h) = p0 := fun h => by
    rw [rd4_load M8.view f8 0 (by decide), hf8]; exact hW0 _ _ _ _ _
  have l1 : ∀ h, M8.view.readAt (Elt F) (Rect.unit (s := S4) ![1] S1.size inb_S4_S1_1).toLoadRect f8 (Shape.Idx.first h) = p1 := fun h => by
    rw [rd4_load M8.view f8 1 (by decide), hf8]; exact hW1 _ _ _ _ _
  have l2 : ∀ h, M8.view.readAt (Elt F) (Rect.unit (s := S4) ![2] S1.size inb_S4_S1_2).toLoadRect f8 (Shape.Idx.first h) = p2 := fun h => by
    rw [rd4_load M8.view f8 2 (by decide), hf8]; exact hW2 _ _ _ _ _
  have l3 : ∀ h, M8.view.readAt (Elt F) (Rect.unit (s := S4) ![3] S1.size inb_S4_S1_3).toLoadRect f8 (Shape.Idx.first h) = p3 := fun h => by
    rw [rd4_load M8.view f8 3 (by decide), hf8]; exact hW3 _ _ _ _ _
  rw [cc2__actor_body_eq_skeleton]; unfold cc2__actor_body_skel
  rw [k2_part1_eq_skeleton]; unfold k2_part1_skel
  sl_exec
  sl_unfold_words
  sl_step
  iapply Hk
  isplitl [H1]
  · iexists _; isplitr
    on_goal 2 => iexact H1
    ipureintro; exact hf1
  isplitl [H2]
  · iexists _; isplitr
    on_goal 2 => iexact H2
    ipureintro; exact hf2
  isplitl [H3]
  · iexists _; isplitr
    on_goal 2 => iexact H3
    ipureintro; exact hf3
  isplitl [H4]
  · iexists _; isplitr
    on_goal 2 => iexact H4
    ipureintro; exact hf4
  isplitl [H5]
  · iexists _; isplitr
    on_goal 2 => iexact H5
    ipureintro; exact hf5
  isplitl [H6]
  · iexists _; isplitr
    on_goal 2 => iexact H6
    ipureintro; exact hf6
  isplitl [H7]
  · iexists _; isplitr
    on_goal 2 => iexact H7
    ipureintro; exact hf7
  isplitl [H8]
  · iexists _; isplitr
    on_goal 2 => iexact H8
    ipureintro
    simp only [e1, e2, e3, e4, e5, l0, l1, l2, l3]
    unfold nxt0 nxt1
    funext j
    obtain ⟨k, rfl⟩ := eq_i4 j
    by_cases hc : took X1 X3 X5 p0
    · simp only [dif_pos hc, if_pos hc, rd4_cons, rd4_cons']
      exact w4_four _ _ _ _ _ k
    · simp only [dif_neg hc, if_neg hc, rd4_cons, rd4_cons']
      simp only [View.writes_nil, hf8]; exact w4_two _ _ _ _ _ _ k
  · iexists _; isplitr
    on_goal 2 => iexact H9
    ipureintro
    simp only [e1, e2, e3, e5, l0, l1, l2, l3]
    unfold nxti
    by_cases hc : took X1 X3 X5 p0
    · simp only [dif_pos hc, if_pos hc, rd1_cons, rd1_cons']
    · simp only [dif_neg hc, if_neg hc, hf9]

set_option maxHeartbeats 2000000 in
set_option maxRecDepth 65536 in
/-- The body's run at the last point. -/
theorem actorRunC (c : Dev nD) (i : grid2.Coords)
    (M1 : Memref sig .tc .vmem S1x256 .f32) (h1 : M1.IsWhole) (M2 : Memref sig .tc .vmem S1x4096 .i32) (h2 : M2.IsWhole)
    (M3 : Memref sig .tc .vmem S256x4096 .f32) (h3 : M3.IsWhole) (M4 : Memref sig .tc .vmem S1x4096 .f32) (h4 : M4.IsWhole)
    (M5 : Memref sig .tc .vmem S1x4096 .f32) (h5 : M5.IsWhole) (M6 : Memref sig .tc .smem S1 .i32) (h6 : M6.IsWhole)
    (M7 : Memref sig .tc .smem S1 .f32) (h7 : M7.IsWhole) (M8 : Memref sig .tc .smem S4 .f32) (h8 : M8.IsWhole)
    (M9 : Memref sig .tc .smem S1 .i32) (h9 : M9.IsWhole)
    (X1 : Vec F S1x256 .f32) (X2 : Vec F S1x4096 .i32) (X3 : Vec F S256x4096 .f32) (X4 X5 : Vec F S1x4096 .f32)
    (X6 : Vec F S1 .i32) (X7 : Vec F S1 .f32) (p0 p1 p2 p3 : F .f32) (pi : BitVec 32)
    (hf : ¬isFirst i) (hl : k2_cond3 i = 1#1) (Q : PUnit → sProp 𝕄) :
    iprop((owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare (W4 p0 p1 p2 p3)
        ∗ owns (c : Thread nD τ) M9 fullShare (fun _ => pi))
        ∗ (iprop(owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare (fun _ => (nxti i X1 X2 X3 X5 p0 pi)) ∗ owns (c : Thread nD τ) M7 fullShare (fun _ => k2_pay3 (nxt1 X1 X2 X3 X4 X5 p0 p1) (k2_pay7 X1 X3 X4 p2) (k2_pay8 X1 X3 X4 p2 p3)) ∗ owns (c : Thread nD τ) M8 fullShare (W4 (nxt0 X1 X3 X5 p0) (nxt1 X1 X2 X3 X4 X5 p0 p1) (k2_pay7 X1 X3 X4 p2) (k2_pay8 X1 X3 X4 p2 p3))
        ∗ owns (c : Thread nD τ) M9 fullShare (fun _ => (nxti i X1 X2 X3 X5 p0 pi))) -∗ Q ⟨⟩))
      ⊢ wp frame (wpE (defs₀ (F := F)) Variants.none c none) Set.univ
          (cc2__actor_body i M1 h1 M2 h2 M3 h3 M4 h4 M5 h5 M6 h6 M7 h7 M8 h8 M9 h9) Q := by
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩⟩, Hk⟩
  have e1 := View.readAt_full (Val := Elt F) M1.view f1 inb_S1x256_S1x256_0_0
  have e2 := View.readAt_full (Val := Elt F) M2.view f2 inb_S1x4096_S1x4096_0_0
  have e3 := View.readAt_full (Val := Elt F) M3.view f3 inb_S256x4096_S256x4096_0_0
  have e4 := View.readAt_full (Val := Elt F) M4.view f4 inb_S1x4096_S1x4096_0_0
  have e5 := View.readAt_full (Val := Elt F) M5.view f5 inb_S1x4096_S1x4096_0_0
  rw [hf1] at e1; rw [hf2] at e2; rw [hf3] at e3; rw [hf4] at e4; rw [hf5] at e5
  have l0 : ∀ h, M8.view.readAt (Elt F) (Rect.unit (s := S4) ![0] S1.size inb_S4_S1_0).toLoadRect f8 (Shape.Idx.first h) = p0 := fun h => by
    rw [rd4_load M8.view f8 0 (by decide), hf8]; exact hW0 _ _ _ _ _
  have l1 : ∀ h, M8.view.readAt (Elt F) (Rect.unit (s := S4) ![1] S1.size inb_S4_S1_1).toLoadRect f8 (Shape.Idx.first h) = p1 := fun h => by
    rw [rd4_load M8.view f8 1 (by decide), hf8]; exact hW1 _ _ _ _ _
  have l2 : ∀ h, M8.view.readAt (Elt F) (Rect.unit (s := S4) ![2] S1.size inb_S4_S1_2).toLoadRect f8 (Shape.Idx.first h) = p2 := fun h => by
    rw [rd4_load M8.view f8 2 (by decide), hf8]; exact hW2 _ _ _ _ _
  have l3 : ∀ h, M8.view.readAt (Elt F) (Rect.unit (s := S4) ![3] S1.size inb_S4_S1_3).toLoadRect f8 (Shape.Idx.first h) = p3 := fun h => by
    rw [rd4_load M8.view f8 3 (by decide), hf8]; exact hW3 _ _ _ _ _
  rw [cc2__actor_body_eq_skeleton]; unfold cc2__actor_body_skel
  rw [k2_part1_eq_skeleton]; unfold k2_part1_skel
  sl_exec
  sl_unfold_words
  sl_step
  iapply Hk
  isplitl [H1]
  · iexists _; isplitr
    on_goal 2 => iexact H1
    ipureintro; exact hf1
  isplitl [H2]
  · iexists _; isplitr
    on_goal 2 => iexact H2
    ipureintro; exact hf2
  isplitl [H3]
  · iexists _; isplitr
    on_goal 2 => iexact H3
    ipureintro; exact hf3
  isplitl [H4]
  · iexists _; isplitr
    on_goal 2 => iexact H4
    ipureintro; exact hf4
  isplitl [H5]
  · iexists _; isplitr
    on_goal 2 => iexact H5
    ipureintro; exact hf5
  isplitl [H6]
  · iexists _; isplitr
    on_goal 2 => iexact H6
    ipureintro
    simp only [e1, e2, e3, e5, l0, l1, l2, l3]
    rw [rd1_cons]
    unfold nxti
    by_cases hc : took X1 X3 X5 p0
    · simp only [dif_pos hc, if_pos hc]
      funext _; exact (rd1_load _ _ _ _).trans (congrFun (rd1_cons' _ _ _ _ _) _)
    · simp only [dif_neg hc, if_neg hc]
      funext _; exact (rd1_load _ _ _ _).trans (congrFun hf9 _)
  isplitl [H7]
  · iexists _; isplitr
    on_goal 2 => iexact H7
    ipureintro
    simp only [e1, e2, e3, e4, e5, l0, l1, l2, l3]
    rw [rd1_cons]
    unfold nxt1
    by_cases hc : took X1 X3 X5 p0
    · simp (decide := true) only [dif_pos hc, if_pos hc, rd4_load _ _ 1 (by decide), rd4_load _ _ 2 (by decide), rd4_load _ _ 3 (by decide), rd4_cons, rd4_cons', if_true, if_false]
    · simp (decide := true) only [dif_neg hc, if_neg hc, rd4_load _ _ 1 (by decide), rd4_load _ _ 2 (by decide), rd4_load _ _ 3 (by decide), rd4_cons, rd4_cons', if_true, if_false, View.writes_nil, hf8, hW1]
  isplitl [H8]
  · iexists _; isplitr
    on_goal 2 => iexact H8
    ipureintro
    simp only [e1, e2, e3, e4, e5, l0, l1, l2, l3]
    unfold nxt0 nxt1
    funext j
    obtain ⟨k, rfl⟩ := eq_i4 j
    by_cases hc : took X1 X3 X5 p0
    · simp only [dif_pos hc, if_pos hc, rd4_cons, rd4_cons']
      exact w4_four _ _ _ _ _ k
    · simp only [dif_neg hc, if_neg hc, rd4_cons, rd4_cons']
      simp only [View.writes_nil, hf8]; exact w4_two _ _ _ _ _ _ k
  · iexists _; isplitr
    on_goal 2 => iexact H9
    ipureintro
    simp only [e1, e2, e3, e5, l0, l1, l2, l3]
    unfold nxti
    by_cases hc : took X1 X3 X5 p0
    · simp only [dif_pos hc, if_pos hc, rd1_cons, rd1_cons']
    · simp only [dif_neg hc, if_neg hc, hf9]

end Cert.Proof

end
-- ==== Proof.Payload.lean ====
/-
  The bodies' computed values at the ideal instance, as the mathematics of the two draws.
-/
module

public import proofs.«01_k».proof.Proof.Reductions
public import proofs.«01_k».proof.Proof.BodyCritic
public import proofs.«01_k».proof.Proof.BodyActor
public import Idealize.ShloMosaic.Lib.MatmulPlain
public import Idealize.ShloMosaic.Lib.ValueLayout

@[expose] public section

set_option backward.isDefEq.respectTransparency.types false
set_option maxRecDepth 65536

noncomputable section

namespace Cert.Proof

open Cert.KernelIdeal Cert.KernelIdeal.Gen
open Idealize.ShloMosaic
open scoped BigOperators

/-- A family over the positions below `n`, read at any natural number (−∞ past its end). -/
def nat (n : ℕ) (f : Fin n → EReal) (q : ℕ) : EReal := if h : q < n then f ⟨q, h⟩ else ⊥
theorem nat_val {n : ℕ} (f : Fin n → EReal) (q : Fin n) : nat n f q.val = f q := dif_pos q.isLt
theorem nat_lt {n : ℕ} (f : Fin n → EReal) {q : ℕ} (h : q < n) : nat n f q = f ⟨q, h⟩ := dif_pos h
theorem nat_ge {n : ℕ} (f : Fin n → EReal) {q : ℕ} (h : ¬ q < n) : nat n f q = ⊥ := dif_neg h

theorem zero_f32 : (FloatOps.ofBits (F := Ideal) .f32 0x00000000#32 : EReal) = 0 := by
  show Ideal.ieee 8 23 0x00000000#32 = 0
  simp [Ideal.ieee]

/-- One unit of a rectified layer: row `r` of `x` against column `k` of `w`, plus `b k`, no less than zero. -/
def unit (x : FVec Ideal S10000x128 .f32) (w : FVec Ideal S128x256 .f32) (b : Fin 256 → EReal) (r : Fin 10000) (k : Fin 256) : EReal :=
  max ((∑ d : Fin 128, x (ValueIdx.ix2 r d) * w (ValueIdx.ix2 d k)) + b k) 0

/-- The critic's score of row `r`. -/
def scoreC (x : FVec Ideal S10000x128 .f32) (w1 : FVec Ideal S128x256 .f32) (b1 : Fin 256 → EReal) (w2 : FVec Ideal S256x1 .f32)
    (b2 : EReal) (r : Fin 10000) : EReal :=
  (∑ k : Fin 256, unit x w1 b1 r k * w2 (ValueIdx.ix2 k (0 : Fin 1))) + b2

/-- The one entry of a one-entry vector, through its recast. -/
theorem extract_one {α : Type} (v : S1.Idx → α) (h : S1.ShapeCasts S1x1x1) (hp) :
    extractAt ![0, 0, 0] (shapeCast S1x1x1 v h) hp = v (ValueIdx.ix1 (0 : Fin 1)) := by
  unfold extractAt shapeCast
  exact congrArg v (funext fun a => Fin.ext (by
    match a with
    | ⟨0, ha⟩ => exact Nat.lt_one_iff.1 (Shape.reshapeEquiv h _ ⟨0, ha⟩).isLt))

/-- The scores the critic's body compares, as it computes them. -/
def scoreVec (x : FVec Ideal S10000x128 .f32) (g : FVec Ideal S10000x1 .f32) (w1 : FVec Ideal S128x256 .f32)
    (b1 : FVec Ideal S1x256 .f32) (w2 : FVec Ideal S256x1 .f32) (b2 : FVec Ideal S1x1 .f32) : FVec Ideal S10000x1 .f32 :=
  addf (addf (matmul dot_S10000x256_S256x1_S10000x1_1_0_0_1_n_n none
        (maximumf (addf (matmul dot_S10000x128_S128x256_S10000x256_1_0_0_1_n_n none x w1 (constant S10000x256 .f32 0x00000000#32))
          (broadcastTo S10000x256 (shapeCast S1x256 b1 shapeCasts_S1x256_S1x256) broadcasts_S1x256_S10000x256))
          (broadcast S10000x256 (Scalar.ofBits .f32 0x00000000#32))) w2 (constant S10000x1 .f32 0x00000000#32))
        (broadcastTo S10000x1 (shapeCast S1x1 b2 shapeCasts_S1x1_S1x1) broadcasts_S1x1_S10000x1)) g

theorem scoreVec_apply (x : FVec Ideal S10000x128 .f32) (g : FVec Ideal S10000x1 .f32) (w1 : FVec Ideal S128x256 .f32)
    (b1 : FVec Ideal S1x256 .f32) (w2 : FVec Ideal S256x1 .f32) (b2 : FVec Ideal S1x1 .f32) (q : Fin 10000) :
    scoreVec x g w1 b1 w2 b2 (ValueIdx.ix2 q (0 : Fin 1)) = nat 10000 (fun r => scoreC x w1 (fun k => b1 (ValueIdx.ix2 (0 : Fin 1) k)) w2 (b2 (ValueIdx.ix2 (0 : Fin 1) (0 : Fin 1))) r + g (ValueIdx.ix2 r (0 : Fin 1))) q := by
  rw [nat_val]
  show (FloatOps.matmul (DotDims.plain 10000 256 1) none _ w2 (constant S10000x1 .f32 0x00000000#32) (ValueIdx.ix2 q (0 : Fin 1))
    + (broadcastTo S10000x1 (shapeCast S1x1 b2 shapeCasts_S1x1_S1x1) broadcasts_S1x1_S10000x1) (ValueIdx.ix2 q (0 : Fin 1)) : EReal) + g (ValueIdx.ix2 q (0 : Fin 1)) = _
  rw [Ideal.matmul_plain_apply]
  congr 1
  unfold scoreC
  congr 1
  · show (FloatOps.ofBits (F := Ideal) .f32 0x00000000#32 : EReal) + _ = _
    rw [zero_f32, zero_add]
    refine Finset.sum_congr rfl fun k _ => ?_
    congr 1
    show max ((FloatOps.matmul (DotDims.plain 10000 128 256) none x w1 (constant S10000x256 .f32 0x00000000#32) (ValueIdx.ix2 q k)
      + (broadcastTo S10000x256 (shapeCast S1x256 b1 shapeCasts_S1x256_S1x256) broadcasts_S1x256_S10000x256) (ValueIdx.ix2 q k) : EReal))
        (0 : EReal) = _
    rw [Ideal.matmul_plain_apply]
    unfold unit
    congr 2
    · show (FloatOps.ofBits (F := Ideal) .f32 0x00000000#32 : EReal) + _ = _
      rw [zero_f32, zero_add]
    · rw [shapeCast_self]
      refine congrArg b1 (funext fun a => Fin.ext ?_)
      match a with
      | ⟨0, _⟩ => rfl
      | ⟨1, _⟩ => rfl
  · rw [shapeCast_self]
    refine congrArg b2 (funext fun a => Fin.ext ?_)
    match a with
    | ⟨0, _⟩ => rfl
    | ⟨1, _⟩ => rfl

set_option maxRecDepth 65536 in
/-- The row the critic's body draws: the first of the greatest score with noise. -/
theorem pick_first (x : FVec Ideal S10000x128 .f32) (g : FVec Ideal S10000x1 .f32) (io : IVec S10000x1 32) (w1 : FVec Ideal S128x256 .f32)
    (b1 : FVec Ideal S1x256 .f32) (w2 : FVec Ideal S256x1 .f32) (b2 : FVec Ideal S1x1 .f32)
    (hio : ∀ q : Fin 10000, io (ValueIdx.ix2 q (0 : Fin 1)) = BitVec.ofNat 32 q.val) :
    ∃ q, FirstMax 10000 (nat 10000 (fun r => scoreC x w1 (fun k => b1 (ValueIdx.ix2 (0 : Fin 1) k)) w2 (b2 (ValueIdx.ix2 (0 : Fin 1) (0 : Fin 1))) r + g (ValueIdx.ix2 r (0 : Fin 1)))) q ∧ pick (F := Ideal) x g io w1 b1 w2 b2 = BitVec.ofNat 32 q := by
  have hp : pick (F := Ideal) x g io w1 b1 w2 b2 = extractAt ![0, 0, 0] (shapeCast S1x1x1 (multiReductionI .minsi [1, 2] S1
      (shapeCast S1x10000x1 (select (cmpf .oeq (scoreVec x g w1 b1 w2 b2) (broadcast S10000x1 (extractAt ![0, 0, 0]
        (shapeCast S1x1x1 (multiReduction .maximumf [1, 2] S1 (shapeCast S1x10000x1 (scoreVec x g w1 b1 w2 b2) shapeCasts_S10000x1_S1x10000x1)
          0xFF800000#32 reduces_S1x10000x1_S1 (.inl rfl) rfl) shapeCasts_S1_S1x1x1) inpos_S1x1x1_p0_0_0))) io (broadcast S10000x1 10000#32))
        shapeCasts_S10000x1_S1x10000x1) 2147483647#32 reduces_S1x10000x1_S1 rfl) shapeCasts_S1_S1x1x1) inpos_S1x1x1_p0_0_0 := rfl
  have ht : ∀ b, S1.size b = 1 := fun b => by match b with | ⟨0, _⟩ => rfl
  rw [hp, extract_one, extract_one, total_max _ reduces_S1x10000x1_S1 ht, sup_cast, sup_line (col_line 10000) (scoreVec_apply x g w1 b1 w2 b2)]
  exact least_eq_first (N := 10000) (by omega) le_rfl (by omega) (col_line 10000) _ io shapeCasts_S10000x1_S1x10000x1
    reduces_S1x10000x1_S1 ht rfl _ (scoreVec_apply x g w1 b1 w2 b2) hio _ rfl

/-! ## The actor's body -/

/-- The hidden layer the critic's body computes at the row it drew. -/
theorem hid_apply (x : FVec Ideal S10000x128 .f32) (n : BitVec 32) (hn : k1_chk1 n) (r : Fin 10000) (hr : n = BitVec.ofNat 32 r.val)
    (w : FVec Ideal S128x256 .f32) (b : FVec Ideal S1x256 .f32) (k : Fin 256) :
    hid (F := Ideal) x n hn w b (ValueIdx.ix2 (0 : Fin 1) k) = unit x w (fun k => b (ValueIdx.ix2 (0 : Fin 1) k)) r k := by
  show max ((FloatOps.matmul (DotDims.plain 1 128 256) none (VecWindow.window x (k1_off1 n) S1x128.size (k1_off1_inb n hn)) w (constant S1x256 .f32 0x00000000#32) (ValueIdx.ix2 (0 : Fin 1) k)
        + (shapeCast S1x256 b shapeCasts_S1x256_S1x256) (ValueIdx.ix2 (0 : Fin 1) k) : EReal))
          (FloatOps.ofBits (F := Ideal) .f32 0x00000000#32 : EReal) = _
  rw [Ideal.matmul_plain_apply, zero_f32, shapeCast_self]
  unfold unit
  congr 2
  show (FloatOps.ofBits (F := Ideal) .f32 0x00000000#32 : EReal) + _ = _
  rw [zero_f32, zero_add]
  refine Finset.sum_congr rfl fun d _ => ?_
  congr 1
  refine congrArg x (funext fun a => Fin.ext ?_)
  have := r.isLt
  match a with
  | ⟨0, _⟩ =>
    show k1_off1 n 0 + 0 = r.val
    subst hr
    show (BitVec.ofNat 32 r.val).toNat + 0 = r.val
    rw [BitVec.toNat_ofNat, Nat.mod_eq_of_lt (by omega)]; rfl
  | ⟨1, _⟩ =>
    first
    | (show 0 + 1 * d.val = d.val; omega)
    | (show 0 + d.val * 1 = d.val; omega)

/-- One logit of a tile before its bias: the hidden row against column `q` of the tile. -/
def dotT (h : FVec Ideal S1x256 .f32) (W : FVec Ideal S256x4096 .f32) (q : Fin 4096) : EReal :=
  ∑ k : Fin 256, h (ValueIdx.ix2 (0 : Fin 1) k) * W (ValueIdx.ix2 k q)

theorem pay5_apply (h : FVec Ideal S1x256 .f32) (W : FVec Ideal S256x4096 .f32) (b : FVec Ideal S1x4096 .f32) (q : Fin 4096) :
    k2_pay5 (F := Ideal) h W b (ValueIdx.ix2 (0 : Fin 1) q) = dotT h W q + b (ValueIdx.ix2 (0 : Fin 1) q) := by
  show (FloatOps.matmul (DotDims.plain 1 256 4096) none (shapeCast S1x256 h shapeCasts_S1x256_S1x256) W (constant S1x4096 .f32 0x00000000#32) (ValueIdx.ix2 (0 : Fin 1) q)
    + (shapeCast S1x4096 b shapeCasts_S1x4096_S1x4096) (ValueIdx.ix2 (0 : Fin 1) q) : EReal) = _
  rw [Ideal.matmul_plain_apply, shapeCast_self, shapeCast_self]
  unfold dotT
  congr 1
  show (FloatOps.ofBits (F := Ideal) .f32 0x00000000#32 : EReal) + _ = _
  rw [zero_f32, zero_add]

theorem pay6_apply (h : FVec Ideal S1x256 .f32) (W : FVec Ideal S256x4096 .f32) (b : FVec Ideal S1x4096 .f32) (q : Fin 4096) :
    k2_pay6 (F := Ideal) h W b (ValueIdx.ix2 (0 : Fin 1) q) = dotT h W q + b (ValueIdx.ix2 (0 : Fin 1) q) := pay5_apply h W b q

section Tile

variable (h : FVec Ideal S1x256 .f32) (io : IVec S1x4096 32) (W : FVec Ideal S256x4096 .f32) (bm bs : FVec Ideal S1x4096 .f32)
  (x s : ℕ → EReal) (n : ℕ)
  (hx : ∀ q : Fin 4096, dotT h W q + bm (ValueIdx.ix2 (0 : Fin 1) q) = x (n + q.val))
  (hs : ∀ q : Fin 4096, dotT h W q + bs (ValueIdx.ix2 (0 : Fin 1) q) = s (n + q.val))
  (hio : ∀ q : Fin 4096, io (ValueIdx.ix2 (0 : Fin 1) q) = BitVec.ofNat 32 q.val)

include hx in
theorem pay7_tile (p2 : EReal) : k2_pay7 (F := Ideal) h W bm p2 = max p2 ((Finset.range 4096).sup fun i => x (n + i)) := by
  have ht : ∀ b, S1.size b = 1 := fun b => by match b with | ⟨0, _⟩ => rfl
  have hp : k2_pay7 (F := Ideal) h W bm p2 = max p2 (extractAt ![0, 0, 0] (shapeCast S1x1x1
      (multiReduction (F := Ideal) .maximumf [1, 2] S1 (shapeCast S1x1x4096 (k2_pay5 h W bm) shapeCasts_S1x4096_S1x1x4096) 0xFF800000#32 reduces_S1x1x4096_S1 (.inl rfl) rfl)
      shapeCasts_S1_S1x1x1) inpos_S1x1x1_p0_0_0 : EReal) := rfl
  rw [hp, extract_one, total_max _ reduces_S1x1x4096_S1 ht, sup_cast,
    sup_line (row_line 4096) (x := fun i => x (n + i)) fun q => (pay5_apply h W bm q).trans (hx q)]

include hs in
theorem pay9_tile : k2_pay9 (F := Ideal) h W bs = (Finset.range 4096).sup fun i => s (n + i) := by
  have ht : ∀ b, S1.size b = 1 := fun b => by match b with | ⟨0, _⟩ => rfl
  have hp : k2_pay9 (F := Ideal) h W bs = (extractAt ![0, 0, 0] (shapeCast S1x1x1
      (multiReduction (F := Ideal) .maximumf [1, 2] S1 (shapeCast S1x1x4096 (k2_pay6 h W bs) shapeCasts_S1x4096_S1x1x4096) 0xFF800000#32 reduces_S1x1x4096_S1 (.inl rfl) rfl)
      shapeCasts_S1_S1x1x1) inpos_S1x1x1_p0_0_0 : EReal) := rfl
  rw [hp, extract_one, total_max _ reduces_S1x1x4096_S1 ht, sup_cast,
    sup_line (row_line 4096) (x := fun i => s (n + i)) fun q => (pay6_apply h W bs q).trans (hs q)]

include hx in
theorem pay8_tile (p2 p3 : EReal) : k2_pay8 (F := Ideal) h W bm p2 p3
    = p3 * Ideal.exp (p2 - max p2 ((Finset.range 4096).sup fun i => x (n + i)))
      + expSum 4096 (fun i => x (n + i)) (max p2 ((Finset.range 4096).sup fun i => x (n + i))) := by
  have ht : ∀ b, S1.size b = 1 := fun b => by match b with | ⟨0, _⟩ => rfl
  have hp : k2_pay8 (F := Ideal) h W bm p2 p3 = p3 * Ideal.exp (p2 - k2_pay7 (F := Ideal) h W bm p2) + (extractAt ![0, 0, 0] (shapeCast S1x1x1
      (multiReduction (F := Ideal) .add [1, 2] S1 (shapeCast S1x1x4096 (exp (subf (k2_pay5 h W bm) (broadcast S1x4096 (k2_pay7 (F := Ideal) h W bm p2)))) shapeCasts_S1x4096_S1x1x4096) 0x00000000#32 reduces_S1x1x4096_S1 (.inl rfl) rfl)
      shapeCasts_S1_S1x1x1) inpos_S1x1x1_p0_0_0 : EReal) := rfl
  rw [hp, extract_one, Ideal.multiReduction_add_total _ _ reduces_S1x1x4096_S1 ht, sum_cast, pay7_tile h W bm x n hx]
  congr 1
  exact sum_line (row_line 4096) (x := fun i => Ideal.exp (x (n + i) - max p2 ((Finset.range 4096).sup fun i => x (n + i)))) fun q =>
    congrArg (fun z => Ideal.exp (z - _)) ((pay5_apply h W bm q).trans (hx q))

include hs in
theorem took_iff (p0 : EReal) : took (F := Ideal) h W bs p0 ↔ p0 < (Finset.range 4096).sup fun i => s (n + i) := by
  unfold took
  rw [pay9_tile h W bs s n hs]
  have e : Scalar.cmpf (F := Ideal) (φ := .f32) .ogt ((Finset.range 4096).sup fun i => s (n + i)) p0
      = BitVec.ofBool (decide (p0 < (Finset.range 4096).sup fun i => s (n + i))) := rfl
  rw [e]
  by_cases hlt : p0 < (Finset.range 4096).sup fun i => s (n + i)
  · simp only [hlt, decide_true, iff_true]; decide
  · simp only [hlt, decide_false, iff_false]; decide

include hs hio in
/-- The position of the tile's best score, as the body computes it. -/
theorem pay1_tile : ∃ q, FirstMax 4096 (fun i => s (n + i)) q
    ∧ extractAt ![0, 0, 0] (k2_pay1 (F := Ideal) (k2_pay6 h W bs) (k2_pay9 h W bs) io) inpos_S1x1x1_p0_0_0 = BitVec.ofNat 32 q := by
  have ht : ∀ b, S1.size b = 1 := fun b => by match b with | ⟨0, _⟩ => rfl
  obtain ⟨q, hq, hidx⟩ := least_eq_first (N := 4096) (by omega : 0 < 4096) le_rfl (by omega) (row_line 4096) (k2_pay6 (F := Ideal) h W bs) io
    shapeCasts_S1x4096_S1x1x4096 reduces_S1x1x4096_S1 ht rfl (ValueIdx.ix1 (0 : Fin 1)) (x := fun i => s (n + i))
    (fun q => (pay6_apply h W bs q).trans (hs q)) hio _ (pay9_tile h W bs s n hs)
  refine ⟨q, hq, ?_⟩
  generalize k2_pay6 (F := Ideal) h W bs = v at hidx ⊢
  generalize k2_pay9 (F := Ideal) h W bs = M at hidx ⊢
  exact (extract_one _ shapeCasts_S1_S1x1x1 inpos_S1x1x1_p0_0_0).trans hidx

include hx hio in
/-- The logit standing there. -/
theorem pay2_tile (v12 : FVec Ideal S1x4096 .f32) (M : EReal) (q : ℕ) (hq : q < 4096)
    (hidx : extractAt ![0, 0, 0] (k2_pay1 (F := Ideal) v12 M io) inpos_S1x1x1_p0_0_0 = BitVec.ofNat 32 q) :
    k2_pay2 (F := Ideal) (k2_pay5 h W bm) v12 M io io = x (n + q) := by
  have ht : ∀ b, S1.size b = 1 := fun b => by match b with | ⟨0, _⟩ => rfl
  have hv : ∀ q : Fin 4096, k2_pay5 (F := Ideal) h W bm (ValueIdx.ix2 (0 : Fin 1) q) = x (n + q.val) := fun q => (pay5_apply h W bm q).trans (hx q)
  generalize k2_pay5 (F := Ideal) h W bm = v9 at hv ⊢
  unfold k2_pay2
  rw [hidx]
  exact (extract_one _ shapeCasts_S1_S1x1x1 inpos_S1x1x1_p0_0_0).trans
    (pick_at (by omega) (row_line 4096) v9 io shapeCasts_S1x4096_S1x1x4096 reduces_S1x1x4096_S1 ht (.inl rfl) rfl _ (x := fun i => x (n + i)) hv hio q hq)

include hx hs hio in
/-- One tile of the actor's draw. -/
theorem tile_step (i : grid2.Coords) (hi : n = 4096 * (i 0).val) (hi' : (i 0).val < 25) {p0 p1 p2 p3 : EReal} {pi : BitVec 32}
    (R : Running x s n p0 p1 p2 p3 pi) (hx' : ∀ j, j < n + 4096 → x j ≠ ⊤) (hx0 : IsReal (x 0)) (hs0 : IsReal (s 0)) :
    Running x s (n + 4096) (nxt0 (F := Ideal) h W bs p0) (nxt1 (F := Ideal) h io W bm bs p0 p1) (k2_pay7 (F := Ideal) h W bm p2)
      (k2_pay8 (F := Ideal) h W bm p2 p3) (nxti (F := Ideal) i h io W bs p0 pi) := by
  have h9 := pay9_tile h W bs s n hs
  obtain ⟨q, hq, hidx'⟩ := pay1_tile h io W bs s n hs hio
  have hsup : ((Finset.range 4096).sup fun i => s (n + i)) = s (n + q) := hq.sup_eq
  have htk := took_iff h W bs s n hs p0
  rw [hsup] at htk h9
  have hmx := pay2_tile h io W bm x n hx hio _ _ q hq.1 hidx'
  have hstep := R.step hx' hx0 hs0 (by omega) hq
  have hi2 : Scalar.addi (Scalar.muli (BitVec.ofNat 32 (i 0).val) 4096#32) (BitVec.ofNat 32 q) = BitVec.ofNat 32 (n + q) := by
    show BitVec.ofNat 32 (i 0).val * 4096#32 + BitVec.ofNat 32 q = BitVec.ofNat 32 (n + q)
    rw [hi, BitVec.ofNat_add, BitVec.ofNat_mul, BitVec.mul_comm (BitVec.ofNat 32 4096)]
  have e0 : nxt0 (F := Ideal) h W bs p0 = if p0 < s (n + q) then s (n + q) else p0 := by
    by_cases hlt : p0 < s (n + q)
    · exact ((if_pos (htk.2 hlt)).trans h9).trans (if_pos hlt).symm
    · exact (if_neg (fun hh => hlt (htk.1 hh))).trans (if_neg hlt).symm
  have e1 : nxt1 (F := Ideal) h io W bm bs p0 p1 = if p0 < s (n + q) then x (n + q) else p1 := by
    by_cases hlt : p0 < s (n + q)
    · exact ((if_pos (htk.2 hlt)).trans hmx).trans (if_pos hlt).symm
    · exact (if_neg (fun hh => hlt (htk.1 hh))).trans (if_neg hlt).symm
  have ei : nxti (F := Ideal) i h io W bs p0 pi = if p0 < s (n + q) then BitVec.ofNat 32 (n + q) else pi := by
    by_cases hlt : p0 < s (n + q)
    · exact ((if_pos (htk.2 hlt)).trans ((congrArg (Scalar.addi (Scalar.muli (BitVec.ofNat 32 (i 0).val) 4096#32)) hidx').trans hi2)).trans (if_pos hlt).symm
    · exact (if_neg (fun hh => hlt (htk.1 hh))).trans (if_neg hlt).symm
  rw [e0, e1, ei, pay7_tile h W bm x n hx, pay8_tile h W bm x n hx]
  exact hstep

end Tile

/-- The log-probability the last tile writes. -/
theorem pay3_apply (a b c : EReal) : k2_pay3 (F := Ideal) a b c = a - (b + Ideal.log c) := rfl

end Cert.Proof
-- ==== Proof.RegionA.lean ====
/-
  The padding kernel's and the critic's proof data, from any contents of the unscoped buffers: what each leaves, the
  bodies' obligations, and what the two regions' results end holding.
-/
module

public import proofs.«01_k».proof.Proof.Payload
public import Idealize.ShloMosaic.Lib.Pipeline.Value
public import Idealize.ShloMosaic.Lib.Pipeline.FrameBody

@[expose] public section

set_option maxRecDepth 65536
set_option backward.isDefEq.respectTransparency.types false

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

/-- The contents of every buffer of every core. -/
abbrev Conts : Type := Dev nD → Valuation τ sig (Elt Ideal)

variable (V : Conts)

/-- The padding kernel's proof data. -/
def datP (c : Dev nD) : Dat τ (Elt Ideal) Unit ℕ (UR sig nD τ) ℕ cfg0 c where
  A w := V c (Proc.devRef .tc (Pipeline.arrRef spec0 w))
  after w t := match w with
    | ⟨0, _⟩ => k0_pay1 (F := Ideal)
  Φ _ := Pipeline.scopedRest spec0 c
  q _ := fullShare
  owed _ := 0

theorem padBody (c : Dev nD) : BodyObligationLoose (datP V c) (defs₀ (F := Ideal)) Variants.none () Set.univ := fun t => by
  rw [bigSep_W0, bigSep_W0]
  simp only
  rw [show (datP V c).Φ t.succ = (datP V c).Φ t.castSucc from rfl,
    show (datP V c).owesAt () t.succ = (datP V c).owesAt () t.castSucc from rfl]
  iintro ⟨HΦ, Ho, ⟨%d0, H0⟩⟩
  iapply (padRun (F := Ideal) c (win0_0.stage (cfg0.slots t 0)) (hstage0_0 0) _ _)
  isplitl [H0]; · iexact H0
  iintro H0
  isplitl [HΦ]; · iexact HΦ
  isplitl [Ho]; · iexact Ho
  iexact H0

/-- The padding kernel's result ends holding the named constant everywhere. -/
theorem padOut (c : Dev nD) : (datP V c).arrAt 0 cfg0.N = k0_pay1 (F := Ideal) :=
  (datP V c).arrAt_eq_of_cover 0 (k0_pay1 (F := Ideal)) (fun t _ => by
    have hz' : (fun a => win0_0.index t a * main_v2.ty.shape.size a) = fun _ => 0 := funext fun a => Nat.zero_mul _
    exact (Memref.read_access_unit_zero (Elt Ideal) main_v2 hz' (fun a => by rw [congrFun hz' a]; simp) _).symm)
    fun i => ⟨t0_0, flush0_0 _, by
      show i ∈ ((View.whole main_v2).slice (win0_0.rect t0_0)).set
      rw [View.set_slice_whole, Rect.mem_set_unit]
      intro a
      match a with
      | ⟨0, _⟩ => exact ⟨Nat.zero_le _, by show _ < 0 * 2400 + 2400; exact (i 0).isLt⟩⟩

/-- The critic's operands on core `c`, in operand order: `main_arg0`, `main_cst_0`, `main_c`, `main_arg6`, `main_v9`, `main_arg8`, `main_v10`, `main_arg2`, `main_v11`. -/
abbrev op0 (c : Dev nD) : Vec Ideal S10000x128 .f32 := V c (Proc.devRef .tc main_arg0)
abbrev op1 (c : Dev nD) : Vec Ideal S10000x1 .f32 := V c (Proc.devRef .tc main_cst_0)
abbrev op2 (c : Dev nD) : Vec Ideal S10000x1 .i32 := V c (Proc.devRef .tc main_c)
abbrev op3 (c : Dev nD) : Vec Ideal S128x256 .f32 := V c (Proc.devRef .tc main_arg6)
abbrev op4 (c : Dev nD) : Vec Ideal S1x256 .f32 := V c (Proc.devRef .tc main_v9)
abbrev op5 (c : Dev nD) : Vec Ideal S256x1 .f32 := V c (Proc.devRef .tc main_arg8)
abbrev op6 (c : Dev nD) : Vec Ideal S1x1 .f32 := V c (Proc.devRef .tc main_v10)
abbrev op7 (c : Dev nD) : Vec Ideal S128x256 .f32 := V c (Proc.devRef .tc main_arg2)
abbrev op8 (c : Dev nD) : Vec Ideal S1x256 .f32 := V c (Proc.devRef .tc main_v11)

/-- The node the critic picks on core `c`. -/
def picked (c : Dev nD) : BitVec 32 := pick (op0 V c) (op1 V c) (op2 V c) (op3 V c) (op4 V c) (op5 V c) (op6 V c)
open Classical in
/-- The hidden layer of the picked node's row. -/
def hidden (c : Dev nD) : Vec Ideal S1x256 .f32 :=
  if h : k1_chk1 (picked V c) then hid (op0 V c) (picked V c) h (op7 V c) (op8 V c) else fun _ => 0

theorem hidden_eq (hchk : ∀ c, k1_chk1 (picked V c)) (c : Dev nD) :
    hidden V c = hid (op0 V c) (picked V c) (hchk c) (op7 V c) (op8 V c) := by
  unfold hidden; exact dif_pos (hchk c)

/-- The critic's proof data. -/
def datC (c : Dev nD) : Dat τ (Elt Ideal) Unit ℕ (UR sig nD τ) ℕ cfg1 c where
  A w := V c (Proc.devRef .tc (Pipeline.arrRef spec1 w))
  after w t := match w with
    | ⟨0, _⟩ => op0 V c
    | ⟨1, _⟩ => op1 V c
    | ⟨2, _⟩ => op2 V c
    | ⟨3, _⟩ => op3 V c
    | ⟨4, _⟩ => op4 V c
    | ⟨5, _⟩ => op5 V c
    | ⟨6, _⟩ => op6 V c
    | ⟨7, _⟩ => op7 V c
    | ⟨8, _⟩ => op8 V c
    | ⟨9, _⟩ => fun _ => picked V c
    | ⟨10, _⟩ => hidden V c
  Φ _ := Pipeline.scopedRest spec1 c
  q _ := fullShare
  owed _ := 0

theorem after9 (c : Dev nD) (t : Fin cfg1.N) : (datC V c).after 9 t = fun _ => picked V c := by dsimp only [datC]
theorem after10 (c : Dev nD) (t : Fin cfg1.N) : (datC V c).after 10 t = hidden V c := by dsimp only [datC]

theorem found0 (c : Dev nD) (t : Fin cfg1.N) (d) : (datC V c).before 0 t d = op0 V c := by
  have hz' : (fun a => win1_0.index t a * main_arg0.ty.shape.size a) = fun _ => 0 := funext fun a => Nat.zero_mul _
  rw [(datC V c).before_fetched 0 t (fetch1_0 t) d]
  exact (Memref.read_access_unit_zero (Elt Ideal) main_arg0 hz' (fun a => by rw [congrFun hz' a]; simp) _)
theorem found1 (c : Dev nD) (t : Fin cfg1.N) (d) : (datC V c).before 1 t d = op1 V c := by
  have hz' : (fun a => win1_1.index t a * main_cst_0.ty.shape.size a) = fun _ => 0 := funext fun a => Nat.zero_mul _
  rw [(datC V c).before_fetched 1 t (fetch1_1 t) d]
  exact (Memref.read_access_unit_zero (Elt Ideal) main_cst_0 hz' (fun a => by rw [congrFun hz' a]; simp) _)
theorem found2 (c : Dev nD) (t : Fin cfg1.N) (d) : (datC V c).before 2 t d = op2 V c := by
  have hz' : (fun a => win1_2.index t a * main_c.ty.shape.size a) = fun _ => 0 := funext fun a => Nat.zero_mul _
  rw [(datC V c).before_fetched 2 t (fetch1_2 t) d]
  exact (Memref.read_access_unit_zero (Elt Ideal) main_c hz' (fun a => by rw [congrFun hz' a]; simp) _)
theorem found3 (c : Dev nD) (t : Fin cfg1.N) (d) : (datC V c).before 3 t d = op3 V c := by
  have hz' : (fun a => win1_3.index t a * main_arg6.ty.shape.size a) = fun _ => 0 := funext fun a => Nat.zero_mul _
  rw [(datC V c).before_fetched 3 t (fetch1_3 t) d]
  exact (Memref.read_access_unit_zero (Elt Ideal) main_arg6 hz' (fun a => by rw [congrFun hz' a]; simp) _)
theorem found4 (c : Dev nD) (t : Fin cfg1.N) (d) : (datC V c).before 4 t d = op4 V c := by
  have hz' : (fun a => win1_4.index t a * main_v9.ty.shape.size a) = fun _ => 0 := funext fun a => Nat.zero_mul _
  rw [(datC V c).before_fetched 4 t (fetch1_4 t) d]
  exact (Memref.read_access_unit_zero (Elt Ideal) main_v9 hz' (fun a => by rw [congrFun hz' a]; simp) _)
theorem found5 (c : Dev nD) (t : Fin cfg1.N) (d) : (datC V c).before 5 t d = op5 V c := by
  have hz' : (fun a => win1_5.index t a * main_arg8.ty.shape.size a) = fun _ => 0 := funext fun a => Nat.zero_mul _
  rw [(datC V c).before_fetched 5 t (fetch1_5 t) d]
  exact (Memref.read_access_unit_zero (Elt Ideal) main_arg8 hz' (fun a => by rw [congrFun hz' a]; simp) _)
theorem found6 (c : Dev nD) (t : Fin cfg1.N) (d) : (datC V c).before 6 t d = op6 V c := by
  have hz' : (fun a => win1_6.index t a * main_v10.ty.shape.size a) = fun _ => 0 := funext fun a => Nat.zero_mul _
  rw [(datC V c).before_fetched 6 t (fetch1_6 t) d]
  exact (Memref.read_access_unit_zero (Elt Ideal) main_v10 hz' (fun a => by rw [congrFun hz' a]; simp) _)
theorem found7 (c : Dev nD) (t : Fin cfg1.N) (d) : (datC V c).before 7 t d = op7 V c := by
  have hz' : (fun a => win1_7.index t a * main_arg2.ty.shape.size a) = fun _ => 0 := funext fun a => Nat.zero_mul _
  rw [(datC V c).before_fetched 7 t (fetch1_7 t) d]
  exact (Memref.read_access_unit_zero (Elt Ideal) main_arg2 hz' (fun a => by rw [congrFun hz' a]; simp) _)
theorem found8 (c : Dev nD) (t : Fin cfg1.N) (d) : (datC V c).before 8 t d = op8 V c := by
  have hz' : (fun a => win1_8.index t a * main_v11.ty.shape.size a) = fun _ => 0 := funext fun a => Nat.zero_mul _
  rw [(datC V c).before_fetched 8 t (fetch1_8 t) d]
  exact (Memref.read_access_unit_zero (Elt Ideal) main_v11 hz' (fun a => by rw [congrFun hz' a]; simp) _)

theorem criticBody (hchk : ∀ c, k1_chk1 (picked V c)) (c : Dev nD) :
    BodyObligationLoose (datC V c) (defs₀ (F := Ideal)) Variants.none () Set.univ := fun t => by
  rw [bigSep_W1, bigSep_W1]
  simp only
  rw [show (datC V c).Φ t.succ = (datC V c).Φ t.castSucc from rfl,
    show (datC V c).owesAt () t.succ = (datC V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [found0 V c t d0, found1 V c t d1, found2 V c t d2, found3 V c t d3, found4 V c t d4, found5 V c t d5, found6 V c t d6, found7 V c t d7, found8 V c t d8]
  iapply (criticRun (F := Ideal) c (win1_0.stage (cfg1.slots t 0)) (hstage1_0 0) (win1_1.stage (cfg1.slots t 1)) (hstage1_1 0) (win1_2.stage (cfg1.slots t 2)) (hstage1_2 0) (win1_3.stage (cfg1.slots t 3)) (hstage1_3 0) (win1_4.stage (cfg1.slots t 4)) (hstage1_4 0) (win1_5.stage (cfg1.slots t 5)) (hstage1_5 0) (win1_6.stage (cfg1.slots t 6)) (hstage1_6 0) (win1_7.stage (cfg1.slots t 7)) (hstage1_7 0) (win1_8.stage (cfg1.slots t 8)) (hstage1_8 0) (win1_9.stage (cfg1.slots t 9)) (hstage1_9 0) (win1_10.stage (cfg1.slots t 10)) (hstage1_10 0)
    (op0 V c) (op1 V c) (op2 V c) (op3 V c) (op4 V c) (op5 V c) (op6 V c) (op7 V c) (op8 V c) _ _ (hchk c) _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [after9, after10, hidden_eq V hchk c]
  unfold picked
  isplitl [H9]; · iexact H9
  iexact H10

theorem criticOut9 (c : Dev nD) : (datC V c).arrAt 9 cfg1.N = (fun _ => picked V c : Buf (Elt Ideal) ((c : Thread nD τ).loc main_v12_0)) :=
  (datC V c).arrAt_eq_of_cover 9 (fun _ => picked V c) (fun t _ => by
    have hz' : (fun a => win1_9.index t a * main_v12_0.ty.shape.size a) = fun _ => 0 := funext fun a => Nat.zero_mul _
    show (win1_9).cut (grid1.coords t) ((datC V c).after 9 t) = _
    rw [after9]
    generalize (fun _ => picked V c : S1.Idx → BitVec 32) = v
    exact (Memref.read_access_unit_zero (Elt Ideal) main_v12_0 hz' (fun a => by rw [congrFun hz' a]; simp) _).symm)
    fun i => ⟨t1_0, flush1_9 _, by
      show i ∈ ((View.whole main_v12_0).slice (win1_9.rect t1_0)).set
      rw [View.set_slice_whole, Rect.mem_set_unit]
      intro a
      match a with
      | ⟨0, _⟩ => exact ⟨Nat.zero_le _, by show _ < 0 * 1 + 1; exact (i 0).isLt⟩⟩

theorem criticOut10 (c : Dev nD) : (datC V c).arrAt 10 cfg1.N = (hidden V c : Buf (Elt Ideal) ((c : Thread nD τ).loc main_v12_1)) :=
  (datC V c).arrAt_eq_of_cover 10 (hidden V c) (fun t _ => by
    have hz' : (fun a => win1_10.index t a * main_v12_1.ty.shape.size a) = fun _ => 0 := funext fun a => Nat.zero_mul _
    show (win1_10).cut (grid1.coords t) ((datC V c).after 10 t) = _
    rw [after10]
    generalize hidden V c = v
    exact (Memref.read_access_unit_zero (Elt Ideal) main_v12_1 hz' (fun a => by rw [congrFun hz' a]; simp) _).symm)
    fun i => ⟨t1_0, flush1_10 _, by
      show i ∈ ((View.whole main_v12_1).slice (win1_10.rect t1_0)).set
      rw [View.set_slice_whole, Rect.mem_set_unit]
      intro a
      match a with
      | ⟨0, _⟩ => exact ⟨Nat.zero_le _, by show _ < 0 * 1 + 1; exact (i 0).isLt⟩
      | ⟨1, _⟩ => exact ⟨Nat.zero_le _, by show _ < 0 * 256 + 256; exact (i 1).isLt⟩⟩

end Cert.Proof

end
-- ==== Proof.RegionB.lean ====
/-
  The actor's proof data, from any contents of the unscoped buffers: the running state of its scan over the tiles, the
  body's obligation at every grid point, and what the two results end holding.
-/
module

public import proofs.«01_k».proof.Proof.Payload
public import Idealize.ShloMosaic.Lib.Pipeline.Value
public import Idealize.ShloMosaic.Lib.Pipeline.FrameBody

@[expose] public section

set_option maxRecDepth 65536
set_option backward.isDefEq.respectTransparency.types false

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open Idealize.ShloMosaic.ValueIdx

local notation "𝕄" => MT nD τ sig Unit (Elt Ideal) ℕ (UR sig nD τ) ℕ

variable (V : Dev nD → Valuation τ sig (Elt Ideal))

/-- The actor's operands on core `c`: the hidden row, the lane numbers, the weights, the masked biases, the score biases. -/
abbrev oh (c : Dev nD) : Vec Ideal S1x256 .f32 := V c (Proc.devRef .tc main_v12_1)
abbrev oio (c : Dev nD) : Vec Ideal S1x4096 .i32 := V c (Proc.devRef .tc main_c_1)
abbrev ow (c : Dev nD) : Vec Ideal S256x100000 .f32 := V c (Proc.devRef .tc main_arg4)
abbrev om (c : Dev nD) : Vec Ideal S1x102400 .f32 := V c (Proc.devRef .tc main_v4)
abbrev os (c : Dev nD) : Vec Ideal S1x102400 .f32 := V c (Proc.devRef .tc main_v8)

/-- The row times column `j` of the weights, plus entry `j` of a bias; −∞ past the last column. -/
def line (h : Vec Ideal S1x256 .f32) (w : Vec Ideal S256x100000 .f32) (b : Vec Ideal S1x102400 .f32) (j : ℕ) : EReal :=
  if hj : j < 100000 then (∑ k : Fin 256, h (ix2 0 k) * w (ix2 k ⟨j, hj⟩)) + b (ix2 0 ⟨j, by omega⟩) else ⊥

/-- The masked logits and the scores the kernel scans. -/
abbrev xK (c : Dev nD) : ℕ → EReal := line (oh V c) (ow V c) (om V c)
abbrev sK (c : Dev nD) : ℕ → EReal := line (oh V c) (ow V c) (os V c)

open Classical in
/-- The position of the first greatest of `n` scores. -/
def firstBest (n : ℕ) (s : ℕ → EReal) : ℕ := if h : ∃ j, FirstMax n s j then h.choose else 0
theorem firstBest_eq {n : ℕ} {s : ℕ → EReal} {j : ℕ} (h : FirstMax n s j) : firstBest n s = j := by
  have hx : ∃ j, FirstMax n s j := ⟨j, h⟩
  unfold firstBest; rw [dif_pos hx]; exact hx.choose_spec.unique h

/-- The padding of both biases is −∞. -/
structure Padded (c : Dev nD) : Prop where
  padm : ∀ j : Fin 102400, 100000 ≤ j.val → om V c (ix2 0 j) = ⊥
  pads : ∀ j : Fin 102400, 100000 ≤ j.val → os V c (ix2 0 j) = ⊥

/-- What the results' meaning needs of the operands beside. -/
structure Fit (c : Dev nD) : Prop extends Padded V c where
  lanes : ∀ q : Fin 4096, oio V c (ix2 0 q) = BitVec.ofNat 32 q.val
  lt : ∀ j, xK V c j ≠ ⊤
  x0 : IsReal (xK V c 0)
  s0 : IsReal (sK V c 0)

/-- Window `w`'s block at point `t`, read off its array as the region finds it. -/
def blk (c : Dev nD) (w : Fin cfg2.W) (t : Fin cfg2.N) : ((cfg2.win w).xblock (cfg2.grid.coords t)).Idx → Elt Ideal (cfg2.win w).elt :=
  ((cfg2.win w).blk t).view.read (Elt Ideal) (V c (Proc.devRef .tc (Pipeline.arrRef spec2 w)))

/-- The carried words: the best score, the logit at it, the greatest logit, the sum of exponentials, the best index. -/
abbrev Carry : Type := EReal × EReal × EReal × EReal × BitVec 32

/-- Tile `t`'s step of the carried words, `d` standing past the weights' last column. -/
def step (c : Dev nD) (t : Fin cfg2.N) (d : S256x4096.Idx → EReal) (s : Carry) : Carry :=
  (nxt0 (F := Ideal) (oh V c) (win2_2.fill (grid2.coords t) d (blk V c 2 t)) (blk V c 4 t) s.1,
    nxt1 (F := Ideal) (oh V c) (oio V c) (win2_2.fill (grid2.coords t) d (blk V c 2 t)) (blk V c 3 t) (blk V c 4 t) s.1 s.2.1,
    k2_pay7 (F := Ideal) (oh V c) (win2_2.fill (grid2.coords t) d (blk V c 2 t)) (blk V c 3 t) s.2.2.1,
    k2_pay8 (F := Ideal) (oh V c) (win2_2.fill (grid2.coords t) d (blk V c 2 t)) (blk V c 3 t) s.2.2.1 s.2.2.2.1,
    nxti (F := Ideal) (grid2.coords t) (oh V c) (oio V c) (win2_2.fill (grid2.coords t) d (blk V c 2 t)) (blk V c 4 t) s.1 s.2.2.2.2)

/-- The carried words before tile `n`. -/
def carry (c : Dev nD) : ℕ → Carry
  | 0 => (FloatOps.ofBits (F := Ideal) .f32 0xFF800000#32, FloatOps.ofBits (F := Ideal) .f32 0x00000000#32,
      FloatOps.ofBits (F := Ideal) .f32 0xFF800000#32, FloatOps.ofBits (F := Ideal) .f32 0x00000000#32, 0#32)
  | n + 1 => if h : n < cfg2.N then step V c ⟨n, h⟩ (fun _ => (0 : EReal)) (carry c n) else carry c n

/-- What the actor leaves: the carried index after the last tile, -/
def chosen (c : Dev nD) : BitVec 32 := (carry V c 25).2.2.2.2
/-- and the logit at the best score, less the logarithm of the whole sum. -/
def logp (c : Dev nD) : EReal := (carry V c 25).2.1 - ((carry V c 25).2.2.1 + Ideal.log (carry V c 25).2.2.2.1)

/-- What the carried buffers hold before tile `n`: anything at first, the carried words after. -/
def Carried (c : Dev nD) (n : ℕ) (X8 : Vec Ideal S4 .f32) (X9 : Vec Ideal S1 .i32) : Prop :=
  n = 0 ∨ ∃ (p0 p1 p2 p3 : EReal) (pi : BitVec 32), X8 = W4 (F := Ideal) (e := .f32) p0 p1 p2 p3 ∧ X9 = (fun _ => pi)
    ∧ ((p0, p1, p2, p3, pi) : Carry) = carry V c n

/-- The scoped buffers the actor does not use. -/
def unusedB (c : Dev nD) : sProp 𝕄 :=
  iprop((∃ f : Buf (Elt Ideal) ((c : Thread nD τ).loc cc0_stg0_0), ((c : Thread nD τ).loc cc0_stg0_0) ↦{fullShare} f) ∗ (∃ f : Buf (Elt Ideal) ((c : Thread nD τ).loc cc1_stg0_0), ((c : Thread nD τ).loc cc1_stg0_0) ↦{fullShare} f) ∗ (∃ f : Buf (Elt Ideal) ((c : Thread nD τ).loc cc1_stg1_0), ((c : Thread nD τ).loc cc1_stg1_0) ↦{fullShare} f) ∗ (∃ f : Buf (Elt Ideal) ((c : Thread nD τ).loc cc1_stg2_0), ((c : Thread nD τ).loc cc1_stg2_0) ↦{fullShare} f) ∗ (∃ f : Buf (Elt Ideal) ((c : Thread nD τ).loc cc1_stg3_0), ((c : Thread nD τ).loc cc1_stg3_0) ↦{fullShare} f) ∗ (∃ f : Buf (Elt Ideal) ((c : Thread nD τ).loc cc1_stg4_0), ((c : Thread nD τ).loc cc1_stg4_0) ↦{fullShare} f) ∗ (∃ f : Buf (Elt Ideal) ((c : Thread nD τ).loc cc1_stg5_0), ((c : Thread nD τ).loc cc1_stg5_0) ↦{fullShare} f) ∗ (∃ f : Buf (Elt Ideal) ((c : Thread nD τ).loc cc1_stg6_0), ((c : Thread nD τ).loc cc1_stg6_0) ↦{fullShare} f) ∗ (∃ f : Buf (Elt Ideal) ((c : Thread nD τ).loc cc1_stg7_0), ((c : Thread nD τ).loc cc1_stg7_0) ↦{fullShare} f) ∗ (∃ f : Buf (Elt Ideal) ((c : Thread nD τ).loc cc1_stg8_0), ((c : Thread nD τ).loc cc1_stg8_0) ↦{fullShare} f) ∗ (∃ f : Buf (Elt Ideal) ((c : Thread nD τ).loc cc1_stg10_0), ((c : Thread nD τ).loc cc1_stg10_0) ↦{fullShare} f) ∗ (∃ f : Buf (Elt Ideal) ((c : Thread nD τ).loc cc1_stg9_0), ((c : Thread nD τ).loc cc1_stg9_0) ↦{fullShare} f))

/-- The invariant before tile `n`. -/
def scanInv (c : Dev nD) (n : ℕ) : sProp 𝕄 :=
  iprop(unusedB c ∗ ∃ (X8 : Vec Ideal S4 .f32) (X9 : Vec Ideal S1 .i32),
    owns (c : Thread nD τ) (Memref.whole cc2_scratch0) fullShare X8 ∗ owns (c : Thread nD τ) (Memref.whole cc2_scratch1) fullShare X9
      ∗ ⌜Carried V c n X8 X9⌝)

/-- The actor's proof data. -/
def datA (c : Dev nD) : Dat τ (Elt Ideal) Unit ℕ (UR sig nD τ) ℕ cfg2 c where
  A w := V c (Proc.devRef .tc (Pipeline.arrRef spec2 w))
  after w t := match w with
    | ⟨0, _⟩ => blk V c 0 t
    | ⟨1, _⟩ => blk V c 1 t
    | ⟨2, _⟩ => win2_2.fill (grid2.coords t) (fun _ => (0 : EReal)) (blk V c 2 t)
    | ⟨3, _⟩ => blk V c 3 t
    | ⟨4, _⟩ => blk V c 4 t
    | ⟨5, _⟩ => fun _ => chosen V c
    | ⟨6, _⟩ => fun _ => logp V c
  Φ t := scanInv V c t.val
  q _ := fullShare
  owed _ := 0

theorem afterB0 (c : Dev nD) (t : Fin cfg2.N) : (datA V c).after 0 t = blk V c 0 t := by dsimp only [datA]
theorem afterB1 (c : Dev nD) (t : Fin cfg2.N) : (datA V c).after 1 t = blk V c 1 t := by dsimp only [datA]
theorem afterB2 (c : Dev nD) (t : Fin cfg2.N) :
    (datA V c).after 2 t = win2_2.fill (grid2.coords t) (fun _ => (0 : EReal)) (blk V c 2 t) := by dsimp only [datA]
theorem afterB3 (c : Dev nD) (t : Fin cfg2.N) : (datA V c).after 3 t = blk V c 3 t := by dsimp only [datA]
theorem afterB4 (c : Dev nD) (t : Fin cfg2.N) : (datA V c).after 4 t = blk V c 4 t := by dsimp only [datA]
theorem afterB5 (c : Dev nD) (t : Fin cfg2.N) : (datA V c).after 5 t = fun _ => chosen V c := by dsimp only [datA]
theorem afterB6 (c : Dev nD) (t : Fin cfg2.N) : (datA V c).after 6 t = fun _ => logp V c := by dsimp only [datA]

/-! ## What the body finds -/

theorem foundB0 (c : Dev nD) (t : Fin cfg2.N) (d) : (datA V c).before 0 t d = blk V c 0 t :=
  ((datA V c).before_in_eq_fetched 0 rfl (fun _ => rfl) (fun _ _ _ => rfl) (fun t => by rw [afterB0]; rfl) t d).trans rfl

theorem foundB1 (c : Dev nD) (t : Fin cfg2.N) (d) : (datA V c).before 1 t d = blk V c 1 t :=
  ((datA V c).before_in_eq_fetched 1 rfl (fun _ => rfl) (fun _ _ _ => rfl) (fun t => by rw [afterB1]; rfl) t d).trans rfl

theorem foundB3 (c : Dev nD) (t : Fin cfg2.N) (d) : (datA V c).before 3 t d = blk V c 3 t :=
  ((datA V c).before_in_eq_fetched 3 rfl (fun _ => rfl) (fun _ _ _ => rfl) (fun t => by rw [afterB3]; rfl) t d).trans rfl

theorem foundB4 (c : Dev nD) (t : Fin cfg2.N) (d) : (datA V c).before 4 t d = blk V c 4 t :=
  ((datA V c).before_in_eq_fetched 4 rfl (fun _ => rfl) (fun _ _ _ => rfl) (fun t => by rw [afterB4]; rfl) t d).trans rfl

theorem foundB2 (c : Dev nD) (t : Fin cfg2.N) (d) :
    (datA V c).before 2 t d = win2_2.fill (grid2.coords t) d (blk V c 2 t) :=
  ((datA V c).before_fetched 2 t (fetch2_2 t) d).trans rfl

/-! ## The grid's points -/

theorem coordB : ∀ t : Fin cfg2.N, (grid2.coords t 0).val = t.val := by decide +kernel
theorem firstB : ∀ t : Fin cfg2.N, isFirst (grid2.coords t) ↔ t.val = 0 := by decide +kernel
theorem lastB : ∀ t : Fin cfg2.N, k2_cond3 (grid2.coords t) = 1#1 ↔ t.val = 24 := by decide +kernel
theorem idxB0 : ∀ t : Fin cfg2.N, win2_0.index t 0 = 0 ∧ win2_0.index t 1 = 0 := by decide +kernel
theorem idxB1 : ∀ t : Fin cfg2.N, win2_1.index t 0 = 0 ∧ win2_1.index t 1 = 0 := by decide +kernel
theorem idxB2 : ∀ t : Fin cfg2.N, win2_2.index t 0 = 0 ∧ win2_2.index t 1 = t.val := by decide +kernel
theorem idxB3 : ∀ t : Fin cfg2.N, win2_3.index t 0 = 0 ∧ win2_3.index t 1 = t.val := by decide +kernel
theorem idxB4 : ∀ t : Fin cfg2.N, win2_4.index t 0 = 0 ∧ win2_4.index t 1 = t.val := by decide +kernel
theorem cutB : ∀ t : Fin cfg2.N, win2_2.xsize (grid2.coords t) 0 = 256
    ∧ win2_2.xsize (grid2.coords t) 1 = if t.val = 24 then 1696 else 4096 := by decide +kernel

/-! ## The blocks' entries -/

theorem blkB0 (c : Dev nD) (t : Fin cfg2.N) : (blk V c 0 t : Vec Ideal S1x256 .f32) = oh V c := by
  funext j
  unfold blk
  rw [View.read_apply]
  show oh V c _ = oh V c _
  congr 1
  funext a
  apply Fin.ext
  match a with
  | ⟨0, _⟩ => show win2_0.index t 0 * 1 + 1 * (j 0).val = (j 0).val; rw [(idxB0 t).1]; omega
  | ⟨1, _⟩ => show win2_0.index t 1 * 256 + 1 * (j 1).val = (j 1).val; rw [(idxB0 t).2]; omega

theorem blkB1 (c : Dev nD) (t : Fin cfg2.N) : (blk V c 1 t : Vec Ideal S1x4096 .i32) = oio V c := by
  funext j
  unfold blk
  rw [View.read_apply]
  show oio V c _ = oio V c _
  congr 1
  funext a
  apply Fin.ext
  match a with
  | ⟨0, _⟩ => show win2_1.index t 0 * 1 + 1 * (j 0).val = (j 0).val; rw [(idxB1 t).1]; omega
  | ⟨1, _⟩ => show win2_1.index t 1 * 4096 + 1 * (j 1).val = (j 1).val; rw [(idxB1 t).2]; omega

theorem blkB3 (c : Dev nD) (t : Fin cfg2.N) (q : Fin 4096) (hq : 4096 * t.val + q.val < 102400) :
    (blk V c 3 t : Vec Ideal S1x4096 .f32) (ix2 0 q) = om V c (ix2 0 ⟨4096 * t.val + q.val, hq⟩) := by
  unfold blk
  rw [View.read_apply]
  show om V c _ = om V c _
  congr 1
  funext a
  apply Fin.ext
  match a with
  | ⟨0, _⟩ => show win2_3.index t 0 * 1 + 1 * 0 = 0; rw [(idxB3 t).1]
  | ⟨1, _⟩ => show win2_3.index t 1 * 4096 + 1 * q.val = 4096 * t.val + q.val; rw [(idxB3 t).2]; omega

theorem blkB4 (c : Dev nD) (t : Fin cfg2.N) (q : Fin 4096) (hq : 4096 * t.val + q.val < 102400) :
    (blk V c 4 t : Vec Ideal S1x4096 .f32) (ix2 0 q) = os V c (ix2 0 ⟨4096 * t.val + q.val, hq⟩) := by
  unfold blk
  rw [View.read_apply]
  show os V c _ = os V c _
  congr 1
  funext a
  apply Fin.ext
  match a with
  | ⟨0, _⟩ => show win2_4.index t 0 * 1 + 1 * 0 = 0; rw [(idxB4 t).1]
  | ⟨1, _⟩ => show win2_4.index t 1 * 4096 + 1 * q.val = 4096 * t.val + q.val; rw [(idxB4 t).2]; omega

theorem blkB2 (c : Dev nD) (t : Fin cfg2.N) (d : S256x4096.Idx → EReal) (k : Fin 256) (q : Fin 4096) (hq : 4096 * t.val + q.val < 100000) :
    win2_2.fill (grid2.coords t) d (blk V c 2 t) (ix2 k q) = ow V c (ix2 k ⟨4096 * t.val + q.val, hq⟩) := by
  have hm : win2_2.moved (grid2.coords t) (ix2 k q) = true := by
    refine (win2_2.moved_iff (grid2.coords t) (ix2 k q)).mpr fun a => ?_
    match a with
    | ⟨0, _⟩ => show k.val < win2_2.xsize (grid2.coords t) 0; rw [(cutB t).1]; exact k.isLt
    | ⟨1, _⟩ =>
      show q.val < win2_2.xsize (grid2.coords t) 1
      rw [(cutB t).2]
      have := q.isLt
      split <;> omega
  unfold Pipeline.Window.fill
  rw [dif_pos hm]
  unfold blk
  rw [View.read_apply]
  show ow V c _ = ow V c _
  congr 1
  funext a
  apply Fin.ext
  match a with
  | ⟨0, _⟩ => show win2_2.index t 0 * 256 + 1 * k.val = k.val; rw [(idxB2 t).1]; omega
  | ⟨1, _⟩ => show win2_2.index t 1 * 4096 + 1 * q.val = 4096 * t.val + q.val; rw [(idxB2 t).2]; omega

theorem tileLine (c : Dev nD) (t : Fin cfg2.N) (d : S256x4096.Idx → EReal) (b : Vec Ideal S1x102400 .f32) (bt : Vec Ideal S1x4096 .f32)
    (hb : ∀ (q : Fin 4096) (hq : 4096 * t.val + q.val < 102400), bt (ix2 0 q) = b (ix2 0 ⟨4096 * t.val + q.val, hq⟩))
    (hpad : ∀ j : Fin 102400, 100000 ≤ j.val → b (ix2 0 j) = ⊥) (q : Fin 4096) :
    dotT (oh V c) (win2_2.fill (grid2.coords t) d (blk V c 2 t)) q + bt (ix2 0 q) = line (oh V c) (ow V c) b (4096 * t.val + q.val) := by
  have ht : t.val < 25 := t.isLt
  have hq : 4096 * t.val + q.val < 102400 := by have := q.isLt; omega
  rw [hb q hq]
  unfold line
  split
  · rename_i hj
    unfold dotT
    congr 1
    exact Finset.sum_congr rfl fun k _ => by rw [blkB2 V c t d k q hj]
  · rename_i hj
    rw [hpad ⟨_, hq⟩ (by show 100000 ≤ 4096 * t.val + q.val; omega), EReal.add_bot]

/-- What stands past the last column does not matter: a tile's masked logits and scores are −∞ there. -/
theorem pay_fill (c : Dev nD) (t : Fin cfg2.N) (d d' : S256x4096.Idx → EReal) (b : Vec Ideal S1x102400 .f32) (bt : Vec Ideal S1x4096 .f32)
    (hb : ∀ (q : Fin 4096) (hq : 4096 * t.val + q.val < 102400), bt (ix2 0 q) = b (ix2 0 ⟨4096 * t.val + q.val, hq⟩))
    (hpad : ∀ j : Fin 102400, 100000 ≤ j.val → b (ix2 0 j) = ⊥) :
    k2_pay5 (F := Ideal) (oh V c) (win2_2.fill (grid2.coords t) d (blk V c 2 t)) bt
      = k2_pay5 (F := Ideal) (oh V c) (win2_2.fill (grid2.coords t) d' (blk V c 2 t)) bt := by
  funext j
  obtain ⟨q, rfl⟩ : ∃ q : Fin 4096, j = ix2 (0 : Fin 1) q :=
    ⟨j 1, funext fun a => by
      match a with
      | ⟨0, _⟩ => exact Subsingleton.elim (α := Fin 1) _ _
      | ⟨1, _⟩ => rfl⟩
  rw [pay5_apply, pay5_apply]
  exact (tileLine V c t d b bt hb hpad q).trans (tileLine V c t d' b bt hb hpad q).symm

theorem step_fill (c : Dev nD) (hV : Padded V c) (t : Fin cfg2.N) (d d' : S256x4096.Idx → EReal) (s : Carry) :
    step V c t d s = step V c t d' s := by
  have hm := pay_fill V c t d d' (om V c) (blk V c 3 t) (fun q hq => blkB3 V c t q hq) hV.padm
  have hs : k2_pay6 (F := Ideal) (oh V c) (win2_2.fill (grid2.coords t) d (blk V c 2 t)) (blk V c 4 t)
      = k2_pay6 (F := Ideal) (oh V c) (win2_2.fill (grid2.coords t) d' (blk V c 2 t)) (blk V c 4 t) :=
    pay_fill V c t d d' (os V c) (blk V c 4 t) (fun q hq => blkB4 V c t q hq) hV.pads
  have h9 : k2_pay9 (F := Ideal) (oh V c) (win2_2.fill (grid2.coords t) d (blk V c 2 t)) (blk V c 4 t)
      = k2_pay9 (F := Ideal) (oh V c) (win2_2.fill (grid2.coords t) d' (blk V c 2 t)) (blk V c 4 t) := by
    unfold k2_pay9; rw [hs]
  have h7 : k2_pay7 (F := Ideal) (oh V c) (win2_2.fill (grid2.coords t) d (blk V c 2 t)) (blk V c 3 t) s.2.2.1
      = k2_pay7 (F := Ideal) (oh V c) (win2_2.fill (grid2.coords t) d' (blk V c 2 t)) (blk V c 3 t) s.2.2.1 := by
    unfold k2_pay7; rw [hm]
  have h8 : k2_pay8 (F := Ideal) (oh V c) (win2_2.fill (grid2.coords t) d (blk V c 2 t)) (blk V c 3 t) s.2.2.1 s.2.2.2.1
      = k2_pay8 (F := Ideal) (oh V c) (win2_2.fill (grid2.coords t) d' (blk V c 2 t)) (blk V c 3 t) s.2.2.1 s.2.2.2.1 := by
    unfold k2_pay8; rw [hm, h7]
  unfold step nxt0 nxt1 nxti took
  rw [h7, h8, h9, hs, hm]

theorem carry_succ (c : Dev nD) (t : Fin cfg2.N) : carry V c (t.val + 1) = step V c t (fun _ => 0) (carry V c t.val) := by
  rw [carry, dif_pos t.isLt]

/-- One tile's step. -/
theorem stepB (c : Dev nD) (hV : Padded V c) (t : Fin cfg2.N) (d : S256x4096.Idx → EReal) {p0 p1 p2 p3 : EReal} {pi : BitVec 32}
    (R : ((p0, p1, p2, p3, pi) : Carry) = carry V c t.val) :
    ((nxt0 (F := Ideal) (oh V c) (win2_2.fill (grid2.coords t) d (blk V c 2 t)) (blk V c 4 t) p0,
      nxt1 (F := Ideal) (oh V c) (oio V c) (win2_2.fill (grid2.coords t) d (blk V c 2 t)) (blk V c 3 t) (blk V c 4 t) p0 p1,
      k2_pay7 (F := Ideal) (oh V c) (win2_2.fill (grid2.coords t) d (blk V c 2 t)) (blk V c 3 t) p2,
      k2_pay8 (F := Ideal) (oh V c) (win2_2.fill (grid2.coords t) d (blk V c 2 t)) (blk V c 3 t) p2 p3,
      nxti (F := Ideal) (grid2.coords t) (oh V c) (oio V c) (win2_2.fill (grid2.coords t) d (blk V c 2 t)) (blk V c 4 t) p0 pi) : Carry)
      = carry V c (t.val + 1) := by
  show step V c t d (p0, p1, p2, p3, pi) = _
  rw [R, step_fill V c hV t d fun _ => 0, carry_succ]

/-- The carried words past the last tile are the results. -/
theorem endB (c : Dev nD) {p0 p1 p2 p3 : EReal} {pi : BitVec 32} (R : ((p0, p1, p2, p3, pi) : Carry) = carry V c 25) :
    pi = chosen V c ∧ p1 - (p2 + Ideal.log p3) = logp V c := by
  unfold chosen logp
  rw [← R]
  exact ⟨rfl, rfl⟩

/-! ## What the results mean -/

/-- One tile's step, of the running state. -/
theorem running_step (c : Dev nD) (hV : Fit V c) (t : Fin cfg2.N) (d : S256x4096.Idx → EReal) {p0 p1 p2 p3 : EReal} {pi : BitVec 32}
    (R : Running (xK V c) (sK V c) (4096 * t.val) p0 p1 p2 p3 pi) :
    Running (xK V c) (sK V c) (4096 * (t.val + 1))
      (nxt0 (F := Ideal) (oh V c) (win2_2.fill (grid2.coords t) d (blk V c 2 t)) (blk V c 4 t) p0)
      (nxt1 (F := Ideal) (oh V c) (oio V c) (win2_2.fill (grid2.coords t) d (blk V c 2 t)) (blk V c 3 t) (blk V c 4 t) p0 p1)
      (k2_pay7 (F := Ideal) (oh V c) (win2_2.fill (grid2.coords t) d (blk V c 2 t)) (blk V c 3 t) p2)
      (k2_pay8 (F := Ideal) (oh V c) (win2_2.fill (grid2.coords t) d (blk V c 2 t)) (blk V c 3 t) p2 p3)
      (nxti (F := Ideal) (grid2.coords t) (oh V c) (oio V c) (win2_2.fill (grid2.coords t) d (blk V c 2 t)) (blk V c 4 t) p0 pi) := by
  have hc := coordB t
  rw [show 4096 * (t.val + 1) = 4096 * t.val + 4096 by ring]
  exact tile_step (oh V c) (oio V c) _ (blk V c 3 t) (blk V c 4 t) (xK V c) (sK V c) (4096 * t.val)
    (fun q => tileLine V c t d (om V c) _ (fun q hq => blkB3 V c t q hq) hV.padm q)
    (fun q => tileLine V c t d (os V c) _ (fun q hq => blkB4 V c t q hq) hV.pads q)
    hV.lanes (grid2.coords t) (by rw [hc]) (by rw [hc]; exact t.isLt) R (fun j _ => hV.lt j) hV.x0 hV.s0

/-- The running state, of the words held together. -/
def Holds (c : Dev nD) (n : ℕ) (s : Carry) : Prop :=
  Running (xK V c) (sK V c) (4096 * n) s.1 s.2.1 s.2.2.1 s.2.2.2.1 s.2.2.2.2

theorem holds_step (c : Dev nD) (hV : Fit V c) (t : Fin cfg2.N) (d : S256x4096.Idx → EReal)
    (s : Carry) (R : Holds V c t.val s) : Holds V c (t.val + 1) (step V c t d s) := by
  unfold Holds at R ⊢
  have R' := running_step V c hV t d R
  unfold step
  dsimp only
  exact R'

/-- Before tile `n` the carried words are those of the first `4096 n` logits and scores. -/
theorem carry_holds (c : Dev nD) (hV : Fit V c) (n : ℕ) (hn : n ≤ 25) : Holds V c n (carry V c n) := by
  induction n with
  | zero =>
    show Running _ _ _ (FloatOps.ofBits (F := Ideal) .f32 0xFF800000#32) _ (FloatOps.ofBits (F := Ideal) .f32 0xFF800000#32)
      (FloatOps.ofBits (F := Ideal) .f32 0x00000000#32) _
    rw [neg_inf_f32, zero_f32]
    exact Running.zero _ _ _ _
  | succ n ih =>
    have h : n < cfg2.N := by show n < 25; omega
    have e := carry_succ V c ⟨n, h⟩
    have R := holds_step V c hV ⟨n, h⟩ (fun _ => 0) _ (ih (by omega))
    rw [← e] at R
    exact R

/-- The index left is the position of the first greatest score, and the value left is the log-probability there. -/
theorem results_eq (c : Dev nD) (hV : Fit V c) :
    chosen V c = BitVec.ofNat 32 (firstBest 102400 (sK V c))
      ∧ logp V c = xK V c (firstBest 102400 (sK V c))
        - ((Finset.range 102400).sup (xK V c) + Ideal.log (expSum 102400 (xK V c) ((Finset.range 102400).sup (xK V c)))) := by
  have R := carry_holds V c hV 25 le_rfl
  unfold chosen logp
  generalize carry V c 25 = s at R ⊢
  obtain ⟨p0, p1, p2, p3, pi⟩ := s
  have R : Running (xK V c) (sK V c) 102400 p0 p1 p2 p3 pi := R
  obtain ⟨j, hj, h0, h1, hi⟩ := R.best (by norm_num)
  have e := firstBest_eq hj
  rw [e]
  dsimp only
  rw [hi, h1, R.sum, R.top]
  exact ⟨rfl, rfl⟩

/-! ## What the body hands back -/

theorem giveB0 (c : Dev nD) (t : Fin cfg2.N) :
    (owns (c : Thread nD τ) ((cfg2.win 0).stage (cfg2.slots t 0)) fullShare (blk V c 0 t) : sProp 𝕄) ⊢ (datA V c).leaves 0 t := by
  rw [← afterB0]

theorem giveB1 (c : Dev nD) (t : Fin cfg2.N) :
    (owns (c : Thread nD τ) ((cfg2.win 1).stage (cfg2.slots t 1)) fullShare (blk V c 1 t) : sProp 𝕄) ⊢ (datA V c).leaves 1 t := by
  rw [← afterB1]

theorem giveB3 (c : Dev nD) (t : Fin cfg2.N) :
    (owns (c : Thread nD τ) ((cfg2.win 3).stage (cfg2.slots t 3)) fullShare (blk V c 3 t) : sProp 𝕄) ⊢ (datA V c).leaves 3 t := by
  rw [← afterB3]

theorem giveB4 (c : Dev nD) (t : Fin cfg2.N) :
    (owns (c : Thread nD τ) ((cfg2.win 4).stage (cfg2.slots t 4)) fullShare (blk V c 4 t) : sProp 𝕄) ⊢ (datA V c).leaves 4 t := by
  rw [← afterB4]

theorem giveB2 (c : Dev nD) (t : Fin cfg2.N) (d : S256x4096.Idx → EReal) :
    (owns (c : Thread nD τ) ((cfg2.win 2).stage (cfg2.slots t 2)) fullShare (win2_2.fill (grid2.coords t) d (blk V c 2 t)) : sProp 𝕄)
      ⊢ (datA V c).leaves 2 t := by
  show _ ⊢ iprop(∃ d, owns (c : Thread nD τ) ((cfg2.win 2).stage (cfg2.slots t 2)) fullShare
    (win2_2.fill (grid2.coords t) d (win2_2.cut (grid2.coords t) ((datA V c).after 2 t))))
  iintro H; iexists d; rw [afterB2, win2_2.cut_fill]; iexact H

theorem restB5 (c : Dev nD) (t : Fin cfg2.N) (h : t.val ≠ 24) (d) :
    (owns (c : Thread nD τ) ((cfg2.win 5).stage (cfg2.slots t 5)) fullShare ((datA V c).before 5 t d) : sProp 𝕄) ⊢ (datA V c).leaves 5 t := by
  have hi : cfg2.idle 5 (cfg2.grid.coords t) = true := by
    show (!(k2_cond3 (grid2.coords t) == 1#1)) = true
    rw [beq_eq_false_iff_ne.2 fun e => h ((lastB t).1 e)]; rfl
  have hfl : (cfg2.win 5).flush t = false := by
    rw [← Bool.not_eq_true]; intro e
    have := (flush2_5 t).1 e
    have ht : t.val < 25 := t.isLt
    omega
  unfold Dat.leaves
  rw [hi, hfl]
  iintro H; iexists d; iexact H

theorem lastB5 (c : Dev nD) (t : Fin cfg2.N) (h : t.val = 24) :
    (owns (c : Thread nD τ) ((cfg2.win 5).stage (cfg2.slots t 5)) fullShare (fun _ => chosen V c) : sProp 𝕄) ⊢ (datA V c).leaves 5 t := by
  have hi : cfg2.idle 5 (cfg2.grid.coords t) = false := by
    show (!(k2_cond3 (grid2.coords t) == 1#1)) = false
    rw [beq_iff_eq.2 ((lastB t).2 h)]; rfl
  unfold Dat.leaves
  rw [hi, ← afterB5 V c t]

theorem restB6 (c : Dev nD) (t : Fin cfg2.N) (h : t.val ≠ 24) (d) :
    (owns (c : Thread nD τ) ((cfg2.win 6).stage (cfg2.slots t 6)) fullShare ((datA V c).before 6 t d) : sProp 𝕄) ⊢ (datA V c).leaves 6 t := by
  have hi : cfg2.idle 6 (cfg2.grid.coords t) = true := by
    show (!(k2_cond3 (grid2.coords t) == 1#1)) = true
    rw [beq_eq_false_iff_ne.2 fun e => h ((lastB t).1 e)]; rfl
  have hfl : (cfg2.win 6).flush t = false := by
    rw [← Bool.not_eq_true]; intro e
    have := (flush2_6 t).1 e
    have ht : t.val < 25 := t.isLt
    omega
  unfold Dat.leaves
  rw [hi, hfl]
  iintro H; iexists d; iexact H

theorem lastB6 (c : Dev nD) (t : Fin cfg2.N) (h : t.val = 24) :
    (owns (c : Thread nD τ) ((cfg2.win 6).stage (cfg2.slots t 6)) fullShare (fun _ => logp V c) : sProp 𝕄) ⊢ (datA V c).leaves 6 t := by
  have hi : cfg2.idle 6 (cfg2.grid.coords t) = false := by
    show (!(k2_cond3 (grid2.coords t) == 1#1)) = false
    rw [beq_iff_eq.2 ((lastB t).2 h)]; rfl
  unfold Dat.leaves
  rw [hi, ← afterB6 V c t]

/-! ## The obligation -/

theorem actorBody (c : Dev nD) (hV : Padded V c) : BodyObligationLoose (datA V c) (defs₀ (F := Ideal)) Variants.none () Set.univ := fun t => by
  show _ ⊢ wp frame _ _ _ fun _ => iprop((datA V c).Φ t.succ ∗ (datA V c).owesAt () t.succ
    ∗ bigSep Finset.univ fun w : Fin cfg2.W => (datA V c).leaves w t)
  rw [bigSep_W2, bigSep_W2]
  simp only
  rw [show (datA V c).Φ t.castSucc = scanInv V c t.val from rfl, show (datA V c).Φ t.succ = scanInv V c (t.val + 1) from rfl,
    show (datA V c).owesAt () t.succ = (datA V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [foundB0, foundB1, foundB2, foundB3, foundB4]
  unfold scanInv
  icases HΦ with ⟨Hr, %X8, %X9, H7, H8, %hcar⟩
  have hfirst := firstB t
  have hlast := lastB t
  have e0 := blkB0 V c t
  have e1 := blkB1 V c t
  rcases hcar with h0 | ⟨p0, p1, p2, p3, pi, rfl, rfl, R⟩
  · have hne : t.val ≠ 24 := by omega
    iapply (actorRunA (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (Memref.whole cc2_scratch0) (Memref.isWhole_whole _) (Memref.whole cc2_scratch1) (Memref.isWhole_whole _)
      (blk V c 0 t) (blk V c 1 t) (win2_2.fill (grid2.coords t) d2 (blk V c 2 t)) (blk V c 3 t) (blk V c 4 t) ((datA V c).before 5 t d5) ((datA V c).before 6 t d6) X8 X9 (hfirst.2 h0) (fun e => hne (hlast.1 e)) _)
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iintro ⟨H0, H1, H2, H3, H4, H5, H6, H7, H8⟩
    isplitl [Hr H7 H8]
    · isplitl [Hr]; · iexact Hr
      iexists _, _
      isplitl [H7]; · iexact H7
      isplitl [H8]; · iexact H8
      ipureintro
      refine Or.inr ⟨_, _, _, _, _, rfl, rfl, ?_⟩
      rw [show (blk V c 0 t : Vec Ideal S1x256 .f32) = oh V c from e0, show (blk V c 1 t : Vec Ideal S1x4096 .i32) = oio V c from e1]
      exact stepB V c hV t d2 (by rw [h0]; rfl)
    isplitl [Ho]; · iexact Ho
    isplitl [H0]; · iapply (giveB0 V c t); iexact H0
    isplitl [H1]; · iapply (giveB1 V c t); iexact H1
    isplitl [H2]; · iapply (giveB2 V c t d2); iexact H2
    isplitl [H3]; · iapply (giveB3 V c t); iexact H3
    isplitl [H4]; · iapply (giveB4 V c t); iexact H4
    isplitl [H5]; · iapply (restB5 V c t hne d5); iexact H5
    iapply (restB6 V c t hne d6); iexact H6
  · have R0 : t.val ≠ 0 ∨ t.val = 0 := by omega
    rcases R0 with hn0 | h0
    · by_cases h24 : t.val = 24
      · iapply (actorRunC (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (Memref.whole cc2_scratch0) (Memref.isWhole_whole _) (Memref.whole cc2_scratch1) (Memref.isWhole_whole _)
          (blk V c 0 t) (blk V c 1 t) (win2_2.fill (grid2.coords t) d2 (blk V c 2 t)) (blk V c 3 t) (blk V c 4 t) ((datA V c).before 5 t d5) ((datA V c).before 6 t d6) p0 p1 p2 p3 pi (fun e => hn0 (hfirst.1 e)) (hlast.2 h24) _)
        isplitl [H0 H1 H2 H3 H4 H5 H6 H7 H8]
        · isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
        iintro ⟨H0, H1, H2, H3, H4, H5, H6, H7, H8⟩
        isplitl [Hr H7 H8]
        · isplitl [Hr]; · iexact Hr
          iexists _, _
          isplitl [H7]; · iexact H7
          isplitl [H8]; · iexact H8
          ipureintro
          refine Or.inr ⟨_, _, _, _, _, rfl, rfl, ?_⟩
          rw [show (blk V c 0 t : Vec Ideal S1x256 .f32) = oh V c from e0, show (blk V c 1 t : Vec Ideal S1x4096 .i32) = oio V c from e1]
          exact stepB V c hV t d2 R
        isplitl [Ho]; · iexact Ho
        isplitl [H0]; · iapply (giveB0 V c t); iexact H0
        isplitl [H1]; · iapply (giveB1 V c t); iexact H1
        isplitl [H2]; · iapply (giveB2 V c t d2); iexact H2
        isplitl [H3]; · iapply (giveB3 V c t); iexact H3
        isplitl [H4]; · iapply (giveB4 V c t); iexact H4
        have hend := endB V c (by simpa only [h24] using stepB V c hV t d2 R)
        rw [← e0, ← e1] at hend
        isplitl [H5]
        · iapply (lastB5 V c t h24)
          rw [← hend.1]; iexact H5
        iapply (lastB6 V c t h24)
        rw [← hend.2]; iexact H6
      · iapply (actorRunB (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (Memref.whole cc2_scratch0) (Memref.isWhole_whole _) (Memref.whole cc2_scratch1) (Memref.isWhole_whole _)
          (blk V c 0 t) (blk V c 1 t) (win2_2.fill (grid2.coords t) d2 (blk V c 2 t)) (blk V c 3 t) (blk V c 4 t) ((datA V c).before 5 t d5) ((datA V c).before 6 t d6) p0 p1 p2 p3 pi (fun e => hn0 (hfirst.1 e)) (fun e => h24 (hlast.1 e)) _)
        isplitl [H0 H1 H2 H3 H4 H5 H6 H7 H8]
        · isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
        iintro ⟨H0, H1, H2, H3, H4, H5, H6, H7, H8⟩
        isplitl [Hr H7 H8]
        · isplitl [Hr]; · iexact Hr
          iexists _, _
          isplitl [H7]; · iexact H7
          isplitl [H8]; · iexact H8
          ipureintro
          refine Or.inr ⟨_, _, _, _, _, rfl, rfl, ?_⟩
          rw [show (blk V c 0 t : Vec Ideal S1x256 .f32) = oh V c from e0, show (blk V c 1 t : Vec Ideal S1x4096 .i32) = oio V c from e1]
          exact stepB V c hV t d2 R
        isplitl [Ho]; · iexact Ho
        isplitl [H0]; · iapply (giveB0 V c t); iexact H0
        isplitl [H1]; · iapply (giveB1 V c t); iexact H1
        isplitl [H2]; · iapply (giveB2 V c t d2); iexact H2
        isplitl [H3]; · iapply (giveB3 V c t); iexact H3
        isplitl [H4]; · iapply (giveB4 V c t); iexact H4
        isplitl [H5]; · iapply (restB5 V c t h24 d5); iexact H5
        iapply (restB6 V c t h24 d6); iexact H6
    · have hne : t.val ≠ 24 := by omega
      iapply (actorRunA (F := Ideal) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (Memref.whole cc2_scratch0) (Memref.isWhole_whole _) (Memref.whole cc2_scratch1) (Memref.isWhole_whole _)
        (blk V c 0 t) (blk V c 1 t) (win2_2.fill (grid2.coords t) d2 (blk V c 2 t)) (blk V c 3 t) (blk V c 4 t) ((datA V c).before 5 t d5) ((datA V c).before 6 t d6) _ _ (hfirst.2 h0) (fun e => hne (hlast.1 e)) _)
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iintro ⟨H0, H1, H2, H3, H4, H5, H6, H7, H8⟩
      isplitl [Hr H7 H8]
      · isplitl [Hr]; · iexact Hr
        iexists _, _
        isplitl [H7]; · iexact H7
        isplitl [H8]; · iexact H8
        ipureintro
        refine Or.inr ⟨_, _, _, _, _, rfl, rfl, ?_⟩
        rw [show (blk V c 0 t : Vec Ideal S1x256 .f32) = oh V c from e0, show (blk V c 1 t : Vec Ideal S1x4096 .i32) = oio V c from e1]
        exact stepB V c hV t d2 (by rw [h0]; rfl)
      isplitl [Ho]; · iexact Ho
      isplitl [H0]; · iapply (giveB0 V c t); iexact H0
      isplitl [H1]; · iapply (giveB1 V c t); iexact H1
      isplitl [H2]; · iapply (giveB2 V c t d2); iexact H2
      isplitl [H3]; · iapply (giveB3 V c t); iexact H3
      isplitl [H4]; · iapply (giveB4 V c t); iexact H4
      isplitl [H5]; · iapply (restB5 V c t hne d5); iexact H5
      iapply (restB6 V c t hne d6); iexact H6

/-- The last grid point. -/
def ptL : Fin cfg2.N := ⟨24, by decide +kernel⟩

theorem actorOut5 (c : Dev nD) : (datA V c).arrAt 5 cfg2.N = (fun _ => chosen V c : Buf (Elt Ideal) ((c : Thread nD τ).loc main_v13_0)) :=
  (datA V c).arrAt_eq_of_cover 5 (fun _ => chosen V c) (fun t _ => by
    show (win2_5).cut (grid2.coords t) ((datA V c).after 5 t) = _
    rw [afterB5]
    rfl)
    fun i => ⟨ptL, (flush2_5 _).2 rfl, by
      show i ∈ ((View.whole main_v13_0).slice (win2_5.rect ptL)).set
      rw [View.set_slice_whole, Rect.mem_set_unit]
      intro a
      match a with
      | ⟨0, _⟩ => exact ⟨Nat.zero_le _, by show _ < 0 * 1 + 1; exact (i 0).isLt⟩⟩

theorem actorOut6 (c : Dev nD) : (datA V c).arrAt 6 cfg2.N = (fun _ => logp V c : Buf (Elt Ideal) ((c : Thread nD τ).loc main_v13_1)) :=
  (datA V c).arrAt_eq_of_cover 6 (fun _ => logp V c) (fun t _ => by
    show (win2_6).cut (grid2.coords t) ((datA V c).after 6 t) = _
    rw [afterB6]
    rfl)
    fun i => ⟨ptL, (flush2_6 _).2 rfl, by
      show i ∈ ((View.whole main_v13_1).slice (win2_6.rect ptL)).set
      rw [View.set_slice_whole, Rect.mem_set_unit]
      intro a
      match a with
      | ⟨0, _⟩ => exact ⟨Nat.zero_le _, by show _ < 0 * 1 + 1; exact (i 0).isLt⟩⟩

end Cert.Proof

end
-- ==== Proof.Run.lean ====
/-
  The kernel's run: the three regions' records over the proof data, chained with the host stretches, and what the last
  stretch leaves in every unscoped buffer.
-/
module

public import proofs.«01_k».proof.Proof.RegionA
public import proofs.«01_k».proof.Proof.RegionB
public import proofs.«01_k».proof.Proof.Gen.KernelIdeal.Regions
public import Idealize.ShloMosaic.Lib.Pipeline.RegionArraysS
public import Idealize.ShloMosaic.Lib.Pipeline.FrameTail

@[expose] public section

set_option maxRecDepth 65536
set_option backward.isDefEq.respectTransparency.types false

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose Seg RegionSeg afterRegion)

local notation "𝕄" => MT nD τ sig Unit (Elt Ideal) ℕ (UR sig nD τ) ℕ

variable (m : (ℓ : Loc nD τ sig) → Buf (Elt Ideal) ℓ)

/-! ## The contents between the items -/

/-- What the padding kernel leaves. -/
def outsP : Outs (F := Ideal) := fun _ r c => afterRegion (datP (V3 m) c) (V3 m c) (Proc.devRef .tc r)

/-- What the first two kernels leave. -/
def outsC : Outs (F := Ideal) := fun j => match j with
  | 4 => outsP m 4
  | _ => fun r c => afterRegion (datC (V5 m (outsP m)) c) (V5 m (outsP m) c) (Proc.devRef .tc r)

/-- What the three kernels leave. -/
def outsK : Outs (F := Ideal) := fun j => match j with
  | 4 => outsP m 4
  | 6 => outsC m 6
  | _ => fun r c => afterRegion (datA (V6 m (outsC m)) c) (V6 m (outsC m) c) (Proc.devRef .tc r)

/-- The contents the critic finds. -/
abbrev atC : Conts := V5 m (outsK m)

/-- The contents the actor finds. -/
abbrev atA : Conts := V6 m (outsK m)

theorem atC_eq (c : Dev nD) : V5 m (outsP m) c = atC m c := rfl
theorem atA_eq (c : Dev nD) : V6 m (outsC m) c = atA m c := rfl

theorem atC_eq' : V5 m (outsP m) = atC m := funext fun c => atC_eq m c
theorem atA_eq' : V6 m (outsC m) = atA m := funext fun c => atA_eq m c

/-- The proof data of the three kernels. -/
def pdats : (p : Fin 3) → (c : Dev nD) → Dat τ (Elt Ideal) Unit ℕ (UR sig nD τ) ℕ (cfgs p) c := fun p => match p with
  | ⟨0, _⟩ => datP (V3 m)
  | ⟨1, _⟩ => datC (V5 m (outsP m))
  | ⟨2, _⟩ => datA (V6 m (outsC m))

/-- A buffer no output window writes keeps its contents across a region. -/
theorem region_keeps {Λ : Labels} {cfg : Pipeline.Cfg sig Λ} {c : Dev nD} (dat : Dat τ (Elt Ideal) Unit ℕ (UR sig nD τ) ℕ cfg c)
    (V : Valuation τ sig (Elt Ideal)) (hinj : Function.Injective (Pipeline.arrRef cfg.spec))
    (hA : ∀ w, dat.A w = V (Proc.devRef .tc (Pipeline.arrRef cfg.spec w))) (b : DevRef τ sig)
    (h : ∀ w, (cfg.win w).isOut = true → b ≠ Proc.devRef .tc (Pipeline.arrRef cfg.spec w)) : afterRegion dat V b = V b := by
  by_cases hw : ∃ w, b = Proc.devRef .tc (Pipeline.arrRef cfg.spec w)
  · obtain ⟨w, rfl⟩ := hw
    refine Pipeline.afterRegion_keeps dat V hinj hA _ fun w' e => ?_
    rw [hinj e]
    by_contra hne
    exact h w (by simpa using hne) rfl
  · unfold Pipeline.afterRegion
    exact dif_neg hw

theorem outW0 : ∀ w : Fin cfg0.W, (cfg0.win w).isOut = true → Pipeline.arrRef cfg0.spec w = main_v2 := by decide
theorem outW1 : ∀ w : Fin cfg1.W, (cfg1.win w).isOut = true →
    Pipeline.arrRef cfg1.spec w = main_v12_0 ∨ Pipeline.arrRef cfg1.spec w = main_v12_1 := by decide
theorem outW2 : ∀ w : Fin cfg2.W, (cfg2.win w).isOut = true →
    Pipeline.arrRef cfg2.spec w = main_v13_0 ∨ Pipeline.arrRef cfg2.spec w = main_v13_1 := by decide

theorem after0 (c : Dev nD) (b : DevRef τ sig) : afterRegion (datP (V3 m) c) (V3 m c) b = V4 m (outsK m) c b := by
  rw [show V4 m (outsK m) c = Function.update (V3 m c) (Proc.devRef .tc main_v2)
      (afterRegion (datP (V3 m) c) (V3 m c) (Proc.devRef .tc main_v2)) from rfl]
  generalize hX : afterRegion (datP (V3 m) c) (V3 m c) = X
  by_cases h : b = Proc.devRef .tc main_v2
  · subst h
    rw [Function.update_self]
  · rw [Function.update_of_ne h, ← hX]
    exact region_keeps _ _ launch0.win.arr_inj (fun w => rfl) b fun w hw e => h (e.trans (congrArg _ (outW0 w hw)))

theorem after1 (c : Dev nD) (b : DevRef τ sig) :
    afterRegion (datC (V5 m (outsP m)) c) (V5 m (outsP m) c) b = V6 m (outsK m) c b := by
  rw [show V6 m (outsK m) c = Function.update (Function.update (V5 m (outsP m) c) (Proc.devRef .tc main_v12_0)
      (afterRegion (datC (V5 m (outsP m)) c) (V5 m (outsP m) c) (Proc.devRef .tc main_v12_0))) (Proc.devRef .tc main_v12_1)
      (afterRegion (datC (V5 m (outsP m)) c) (V5 m (outsP m) c) (Proc.devRef .tc main_v12_1)) from rfl]
  generalize hX : afterRegion (datC (V5 m (outsP m)) c) (V5 m (outsP m) c) = X
  by_cases h1 : b = Proc.devRef .tc main_v12_1
  · subst h1
    rw [Function.update_self]
  · by_cases h0 : b = Proc.devRef .tc main_v12_0
    · subst h0
      rw [Function.update_of_ne h1, Function.update_self]
    · rw [Function.update_of_ne h1, Function.update_of_ne h0, ← hX]
      exact region_keeps _ _ launch1.win.arr_inj (fun w => rfl) b fun w hw e => by
        rcases outW1 w hw with h | h
        · exact h0 (e.trans (congrArg _ h))
        · exact h1 (e.trans (congrArg _ h))

theorem after2 (c : Dev nD) (b : DevRef τ sig) :
    afterRegion (datA (V6 m (outsC m)) c) (V6 m (outsC m) c) b = V7 m (outsK m) c b := by
  rw [show V7 m (outsK m) c = Function.update (Function.update (V6 m (outsC m) c) (Proc.devRef .tc main_v13_0)
      (afterRegion (datA (V6 m (outsC m)) c) (V6 m (outsC m) c) (Proc.devRef .tc main_v13_0))) (Proc.devRef .tc main_v13_1)
      (afterRegion (datA (V6 m (outsC m)) c) (V6 m (outsC m) c) (Proc.devRef .tc main_v13_1)) from rfl]
  generalize hX : afterRegion (datA (V6 m (outsC m)) c) (V6 m (outsC m) c) = X
  by_cases h1 : b = Proc.devRef .tc main_v13_1
  · subst h1
    rw [Function.update_self]
  · by_cases h0 : b = Proc.devRef .tc main_v13_0
    · subst h0
      rw [Function.update_of_ne h1, Function.update_self]
    · rw [Function.update_of_ne h1, Function.update_of_ne h0, ← hX]
      exact region_keeps _ _ launch2.win.arr_inj (fun w => rfl) b fun w hw e => by
        rcases outW2 w hw with h | h
        · exact h0 (e.trans (congrArg _ h))
        · exact h1 (e.trans (congrArg _ h))

/-! ## The regions' records -/

/-- Every counter of a core's own may be waited at; nothing is owed. -/
abbrev mayWait : GSem nD τ sig → Finset Unit := fun g => if g.1.2 = .tc then {()} else ∅
abbrev level : GSem nD τ sig → Unit → ℕ := fun _ _ => 0

theorem cut (p : Fin 3) : Pipeline.LevelCut (pcfgs (F := Ideal)) adm () mayWait level p (fun _ => 0) fun _ => 0 where
  hι c w s := by simp [mayWait]
  hιb c w s := le_rfl
  hD c g i h := absurd h (lt_irrefl _)

/-- What rides beside the buffers: the core owes nothing. -/
abbrev rest (c : Dev nD) : sProp 𝕄 := iprop(∃ W, owes (c : Thread nD τ) (0 : CellTallies nD τ sig Unit) W)

theorem idleIn (P : sProp 𝕄) : iprop(P ∗ emp) ⊢ P := by
  iintro ⟨H, -⟩
  iexact H

theorem idleOut (P : sProp 𝕄) : P ⊢ iprop(P ∗ emp) := by
  iintro H
  isplitl [H]; · iexact H
  iempintro

def recP : RegionSeg (pcfgs (F := Ideal)) adm (pdats m) () defs₀ Variants.none mayWait level 0 :=
  RegionSeg.ofHeldIn _ _ _ _ _ _ _ _ _ (fun _ => 0) (Pipeline.ucRefs τ sig) (fun _ => iprop(emp)) (fun _ => iprop(emp)) launch0.toP rfl
    (fun c => padBody (V3 m) c) (fun _ _ => rfl) (fun _ => rfl) (fun c => (datP (V3 m) c).share_full fun _ => rfl)
    (fun c => idleIn _) (fun c => idleOut _)
    (fun _ => 0) (cut 0) (fun _ => iprop(emp)) (V3 m) (fun c w => rfl)

theorem scanStart (V : Conts) (c : Dev nD) : iprop(Pipeline.scopedRest spec2 c ∗ emp) ⊢ (scanInv V c 0 : sProp 𝕄) := by
  rw [scopedRest2_eq]
  unfold scanInv unusedB
  iintro ⟨⟨H0, H1, H2, H3, H4, H5, H6, H7, H8, H9, H10, H11, ⟨%f8, G8⟩, ⟨%f9, G9⟩⟩, -⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexists f8
  iexists f9
  rw [owns_whole (c : Thread nD τ) cc2_scratch0 fullShare f8, owns_whole (c : Thread nD τ) cc2_scratch1 fullShare f9]
  isplitl [G8]; · iexact G8
  isplitl [G9]; · iexact G9
  ipureintro
  exact Or.inl rfl

theorem somewhere (c : Dev nD) (b : Ref sig .tc) (X : b.ty.Contents (Elt Ideal)) :
    (owns (c : Thread nD τ) (Memref.whole b) fullShare X : sProp 𝕄)
      ⊢ iprop(∃ f : Buf (Elt Ideal) ((c : Thread nD τ).loc b), ((c : Thread nD τ).loc b) ↦{fullShare} f) := by
  rw [owns_whole (c : Thread nD τ) b fullShare X]
  iintro H
  iexists X
  iexact H

theorem scanEnd (V : Conts) (c : Dev nD) (n : ℕ) : (scanInv V c n : sProp 𝕄) ⊢ iprop(Pipeline.scopedRest spec2 c ∗ emp) := by
  rw [scopedRest2_eq]
  unfold scanInv unusedB
  iintro ⟨⟨H0, H1, H2, H3, H4, H5, H6, H7, H8, H9, H10, H11⟩, %X8, %X9, G8, G9, -⟩
  isplitl
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [G8]
    · iapply (somewhere c cc2_scratch0 X8); iexact G8
    iapply (somewhere c cc2_scratch1 X9); iexact G9
  iempintro

def recC (hchk : ∀ c, k1_chk1 (picked (atC m) c)) :
    RegionSeg (pcfgs (F := Ideal)) adm (pdats m) () defs₀ Variants.none mayWait level 1 :=
  RegionSeg.ofHeldIn _ _ _ _ _ _ _ _ _ (fun _ => 0) (Pipeline.ucRefs τ sig) (fun _ => iprop(emp)) (fun _ => iprop(emp)) launch1.toP rfl
    (fun c => criticBody (V5 m (outsP m)) hchk c) (fun _ _ => rfl) (fun _ => rfl)
    (fun c => (datC (V5 m (outsP m)) c).share_full fun _ => rfl)
    (fun c => idleIn _) (fun c => idleOut _)
    (fun _ => 0) (cut 1) (fun _ => iprop(emp)) (V5 m (outsP m)) (fun c w => rfl)

def recA (hfit : ∀ c, Padded (atA m) c) :
    RegionSeg (pcfgs (F := Ideal)) adm (pdats m) () defs₀ Variants.none mayWait level 2 :=
  RegionSeg.ofHeldIn _ _ _ _ _ _ _ _ _ (fun _ => 0) (Pipeline.ucRefs τ sig) (fun _ => iprop(emp)) (fun _ => iprop(emp)) launch2.toP rfl
    (fun c => actorBody (V6 m (outsC m)) c (hfit c)) (fun _ _ => rfl) (fun _ => rfl)
    (fun c => (datA (V6 m (outsC m)) c).share_full fun _ => rfl)
    (fun c => scanStart _ c) (fun c => scanEnd _ c _)
    (fun _ => 0) (cut 2) (fun _ => iprop(emp)) (V6 m (outsC m)) (fun c w => rfl)

theorem arrs0 : Pipeline.arrRefs (τ := τ) (pcfgs (F := Ideal) 0).spec ⊆ Pipeline.ucRefs τ sig := Pipeline.arrRefs_sub_ucRefs _ (by decide)
theorem arrs1 : Pipeline.arrRefs (τ := τ) (pcfgs (F := Ideal) 1).spec ⊆ Pipeline.ucRefs τ sig := Pipeline.arrRefs_sub_ucRefs _ (by decide)
theorem arrs2 : Pipeline.arrRefs (τ := τ) (pcfgs (F := Ideal) 2).spec ⊆ Pipeline.ucRefs τ sig := Pipeline.arrRefs_sub_ucRefs _ (by decide)

/-- Entering a region: the windows' arrays set apart from the other buffers. -/
theorem enter (c : Dev nD) (A : Finset (DevRef τ sig)) (hA : A ⊆ Pipeline.ucRefs τ sig) (W : Valuation τ sig (Elt Ideal)) :
    (iprop(StableHlo.held (c : Thread nD τ) (Pipeline.ucRefs τ sig) W ∗ rest c) : sProp 𝕄)
      ⊢ iprop(StableHlo.held (c : Thread nD τ) A W ∗ emp ∗ (StableHlo.held (c : Thread nD τ) (Pipeline.ucRefs τ sig \ A) W ∗ emp) ∗ rest c) := by
  rw [StableHlo.held_sub_split (c : Thread nD τ) hA W]
  iintro ⟨⟨Ha, Hu⟩, HO⟩
  isplitl [Ha]; · iexact Ha
  isplitr; · iempintro
  isplitr [HO]
  · isplitl [Hu]; · iexact Hu
    iempintro
  iexact HO

theorem leave (P Q : sProp 𝕄) : iprop(P ∗ Q ∗ emp ∗ emp) ⊢ iprop(P ∗ Q) := by
  iintro ⟨HP, HQ, -⟩
  isplitl [HP]; · iexact HP
  iexact HQ

theorem inP (c : Dev nD) :
    iprop(StableHlo.held (c : Thread nD τ) (Pipeline.ucRefs τ sig) (V3 m c) ∗ rest c) ⊢ (recP m).pre c := by
  exact enter c _ arrs0 _

theorem outP (c : Dev nD) :
    (recP m).post c ⊢ iprop(StableHlo.held (c : Thread nD τ) (Pipeline.ucRefs τ sig) (V4 m (outsK m) c) ∗ rest c) := by
  rw [← StableHlo.held_congr (c : Thread nD τ) (S := Pipeline.ucRefs τ sig) (V' := V4 m (outsK m) c) fun b _ => after0 m c b]
  exact (RegionSeg.ofHeldIn_post arrs0 c).trans (leave _ _)

theorem inC (hchk : ∀ c, k1_chk1 (picked (atC m) c)) (c : Dev nD) :
    iprop(StableHlo.held (c : Thread nD τ) (Pipeline.ucRefs τ sig) (V5 m (outsK m) c) ∗ rest c) ⊢ (recC m hchk).pre c := by
  show iprop(StableHlo.held (c : Thread nD τ) (Pipeline.ucRefs τ sig) (atC m c) ∗ rest c) ⊢ _
  rw [← atC_eq]
  exact enter c _ arrs1 _

theorem outC (hchk : ∀ c, k1_chk1 (picked (atC m) c)) (c : Dev nD) :
    (recC m hchk).post c ⊢ iprop(StableHlo.held (c : Thread nD τ) (Pipeline.ucRefs τ sig) (V6 m (outsK m) c) ∗ rest c) := by
  rw [← StableHlo.held_congr (c : Thread nD τ) (S := Pipeline.ucRefs τ sig) (V' := V6 m (outsK m) c) fun b _ => after1 m c b]
  exact (RegionSeg.ofHeldIn_post arrs1 c).trans (leave _ _)

theorem inA (hfit : ∀ c, Padded (atA m) c) (c : Dev nD) :
    iprop(StableHlo.held (c : Thread nD τ) (Pipeline.ucRefs τ sig) (V6 m (outsK m) c) ∗ rest c) ⊢ (recA m hfit).pre c := by
  show iprop(StableHlo.held (c : Thread nD τ) (Pipeline.ucRefs τ sig) (atA m c) ∗ rest c) ⊢ _
  rw [← atA_eq]
  exact enter c _ arrs2 _

theorem outA (hfit : ∀ c, Padded (atA m) c) (c : Dev nD) :
    (recA m hfit).post c ⊢ iprop(StableHlo.held (c : Thread nD τ) (Pipeline.ucRefs τ sig) (V7 m (outsK m) c) ∗ rest c) := by
  rw [← StableHlo.held_congr (c : Thread nD τ) (S := Pipeline.ucRefs τ sig) (V' := V7 m (outsK m) c) fun b _ => after2 m c b]
  exact (RegionSeg.ofHeldIn_post arrs2 c).trans (leave _ _)

/-! ## The run -/

/-- Every unscoped buffer of every core ends at the last stretch's contents. -/
def Ends (s : MemSt nD τ sig (Elt Ideal)) : Prop :=
  ∀ (c : Dev nD) (b : Ref sig .tc), (Proc.devRef .tc b : DevRef τ sig) ∈ Pipeline.ucRefs τ sig →
    s.mem ((c : Thread nD τ).loc b) = V8 m (outsK m) c (Proc.devRef .tc b)

theorem launchInit (ρ : Dev nD → PrngReg) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ emp)) ∗ levAts mayWait level)
      ⊢ (|={Set.univ}=> bigSep Finset.univ fun c : Dev nD =>
          iprop(StableHlo.held (c : Thread nD τ) (Pipeline.ucRefs τ sig) (V0 m c) ∗ rest c) : sProp 𝕄) :=
  Pipeline.initEach mayWait level fun c => by
    rw [← Pipeline.unscopedBufs_held (Ix := Unit) (Name := ℕ) (U := UR sig nD τ) (Lvl := ℕ) c (V0 m c)]
    iintro ⟨⟨Hb, -, HO, -⟩, -⟩
    imodintro
    isplitl [Hb]; · iexact Hb
    iexists ∅
    iexact HO

theorem kernelRun (ρ : Dev nD → PrngReg) (hchk : ∀ c, k1_chk1 (picked (atC m) c)) (hfit : ∀ c, Padded (atA m) c) :
    θ_run defs (onTc (τ := τ) (main (F := Ideal))) ⟨m, fun _ => 0, ρ⟩ (fun r => Ends m r.2 ∧ r.2.sem = fun _ => 0) := by
  refine Pipeline.θ_run_regions_kit_dev_sems (pcfgs (F := Ideal)) adm (pdats m) () cellOf_inj emb₁ defs₀ Variants.none mayWait level m ρ main
    (segs m (outsK m) Variants.none mayWait level (fun _ => rest) () (pdats m) (recP m) (recC m hchk) (recA m hfit))
    (fun c Q => by
      rewrite [main_chain c, Seg.run_eq_chain]
      exact .rfl)
    (fun c => by simp only [segs, Seg.pipes_host, Seg.pipes_region, Seg.pipes_nil]; decide) 0 (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V8 m (outsK m) c))
    (hch := fun c => ⟨.rfl, .rfl, .rfl, inP m c, outP m c, inC m hchk c, (outC m hchk c).trans (inA m hfit c), outA m hfit c, .rfl⟩)
    (hinit := launchInit m ρ)
    (QY := fun c s => ∀ b : Ref sig .tc, (Proc.devRef .tc b : DevRef τ sig) ∈ Pipeline.ucRefs τ sig →
      s.mem ((c : Thread nD τ).loc b) = V8 m (outsK m) c (Proc.devRef .tc b))
    (hfin := fun c s' => ?_) (hQ := fun _ h hz => ⟨h, funext fun g => hz g (.inr (regions_no_unscoped g.2))⟩)
  · iintro H
    imodintro
    isplitl [H]
    · iapply (show (ownU _ : sProp 𝕄) ⊢ BI.own (emb₁ (initOf (Pipeline.cells cfgs cellOf_inj) (Pipeline.launchToks cfgs cellOf_inj))) from .rfl)
      iexact H
    iapply (show (iprop(emp) : sProp 𝕄) ⊢ bigSep Finset.univ (fun _ : Dev nD => iprop(emp)) from by
      rw [show (bigSep Finset.univ (fun _ : Dev nD => iprop(emp)) : sProp 𝕄) = iprop(emp) from BI.bigSep_emp_const _])
    iempintro
  · unfold StableHlo.held
    iintro ⟨Hh, HSI⟩
    ihave Hr := (pointsTo_read_all (Pipeline.ucRefs τ sig) (fun b => ((c : Thread nD τ).1, b)) (V8 m (outsK m) c) s') $$ [Hh HSI]
    · isplitl [Hh] <;> iassumption
    icases Hr with ⟨%h, HSI⟩
    imodintro
    isplitr
    · ipureintro
      exact fun b hb => h _ hb
    · iexact HSI

end Cert.Proof

end
-- ==== Proof.Tables.lean ====
/-
  The stored tables: the kernel's noise tables are the reference's, its two index tables count from zero, and the
  entries the proof needs to be real are.
-/
module

public import proofs.«01_k».proof.KernelIdeal
public import proofs.«01_k».proof.ReferenceIdeal

@[expose] public section

set_option maxRecDepth 65536

noncomputable section

namespace Cert.Proof

theorem noise_xfer (i : Fin 100000) : Cert.KernelIdeal.lit0 i = Cert.ReferenceIdeal.lit1 i := rfl

theorem noise_node (i : Fin 10000) : Cert.KernelIdeal.lit1 i = Cert.ReferenceIdeal.lit0 i := rfl

theorem count_lanes : ∀ i : Fin 4096, Cert.KernelIdeal.lit3 i = BitVec.ofNat 32 i.val := by decide +kernel

theorem count_rows : ∀ i : Fin 10000, Cert.KernelIdeal.lit2 i = BitVec.ofNat 32 i.val := by decide +kernel

end Cert.Proof

end
-- ==== Proof.HostK.lean ====
/-
  What the kernel's host operations hand the two kernels, entry by entry, and what the last of them return.
-/
module

public import proofs.«01_k».proof.Proof.Run
public import proofs.«01_k».proof.Proof.Tables
public import Idealize.ShloMosaic.Lib.StableHlo.Run
public import Idealize.ShloMosaic.Lib.ValueLayout

@[expose] public section

set_option maxRecDepth 65536
set_option backward.isDefEq.respectTransparency.types false

noncomputable section

namespace Cert.Proof

open Cert.KernelIdeal Cert.KernelIdeal.Gen

open Idealize.ShloMosaic
open Idealize.ShloMosaic.TcCoe Idealize.ShloMosaic.StableHlo
open Idealize.ShloMosaic.ValueIdx
open Idealize.ShloMosaic.Pipeline (afterRegion)

variable (m : (ℓ : Loc nD τ sig) → Buf (Elt Ideal) ℓ) (c : Dev nD)

/-- What core `c` holds at launch in an argument. -/
abbrev arg (r : Ref sig .tc) : r.ty.Contents (Elt Ideal) := m ((c : Thread nD τ).loc r)

/-! ## What no operation changes -/

theorem early_keeps (r : Ref sig .tc) (h0 : r ∉ hostOps0_W) (h1 : r ∉ hostOps0_1_W) (h2 : r ∉ hostOps0_2_W) :
    V3 m c (Proc.devRef .tc r) = arg m c r :=
  (V3_of m c r h2).trans ((V2_of m c r h1).trans (V1_of m c r h0))

theorem atC_keeps (r : Ref sig .tc) (h4 : r ∉ ([main_v2] : List (Ref sig .tc))) (h5 : r ∉ hostOps1_W) :
    atC m c (Proc.devRef .tc r) = V3 m c (Proc.devRef .tc r) :=
  (V5_of m (outsK m) c r h5).trans (V4_of m (outsK m) c r h4)

theorem atA_keeps (r : Ref sig .tc) (h6 : r ∉ ([main_v12_0, main_v12_1] : List (Ref sig .tc))) :
    atA m c (Proc.devRef .tc r) = atC m c (Proc.devRef .tc r) := V6_of m (outsK m) c r h6

theorem op0_eq : op0 (atC m) c = arg m c main_arg0 :=
  (atC_keeps m c main_arg0 (by decide) (by decide)).trans (early_keeps m c main_arg0 (by decide) (by decide) (by decide))
theorem op3_eq : op3 (atC m) c = arg m c main_arg6 :=
  (atC_keeps m c main_arg6 (by decide) (by decide)).trans (early_keeps m c main_arg6 (by decide) (by decide) (by decide))
theorem op5_eq : op5 (atC m) c = arg m c main_arg8 :=
  (atC_keeps m c main_arg8 (by decide) (by decide)).trans (early_keeps m c main_arg8 (by decide) (by decide) (by decide))
theorem op7_eq : op7 (atC m) c = arg m c main_arg2 :=
  (atC_keeps m c main_arg2 (by decide) (by decide)).trans (early_keeps m c main_arg2 (by decide) (by decide) (by decide))
theorem ow_eq : ow (atA m) c = arg m c main_arg4 :=
  (atA_keeps m c main_arg4 (by decide)).trans
    ((atC_keeps m c main_arg4 (by decide) (by decide)).trans (early_keeps m c main_arg4 (by decide) (by decide) (by decide)))

/-! ## The tables -/

theorem V1_cst : V1 m c (Proc.devRef .tc main_cst) = fun i => FloatOps.ofBits (F := Ideal) .f32 (lit0 (S100000.rowMajor i)) := by
  show after hostOps0 (V0 m c) (Proc.devRef .tc main_cst) = _
  after_results
  rfl
theorem V1_cst_0 : V1 m c (Proc.devRef .tc main_cst_0) = fun i => FloatOps.ofBits (F := Ideal) .f32 (lit1 (S10000x1.rowMajor i)) := by
  show after hostOps0 (V0 m c) (Proc.devRef .tc main_cst_0) = _
  after_results
  rfl
theorem V1_c : V1 m c (Proc.devRef .tc main_c) = fun i => lit2 (S10000x1.rowMajor i) := by
  show after hostOps0 (V0 m c) (Proc.devRef .tc main_c) = _
  after_results
  rfl
theorem V1_c_1 : V1 m c (Proc.devRef .tc main_c_1) = fun i => lit3 (S1x4096.rowMajor i) := by
  show after hostOps0 (V0 m c) (Proc.devRef .tc main_c_1) = _
  after_results
  rfl
theorem V1_cst_2 : V1 m c (Proc.devRef .tc main_cst_2) = constant (F := Ideal) S_ .f32 0x00000000#32 := by
  show after hostOps0 (V0 m c) (Proc.devRef .tc main_cst_2) = _
  after_results
theorem V1_cst_3 : V1 m c (Proc.devRef .tc main_cst_3) = constant (F := Ideal) S_ .f32 0xD01502F9#32 := by
  show after hostOps0 (V0 m c) (Proc.devRef .tc main_cst_3) = _
  after_results

theorem row_index (q : Fin 10000) : S10000x1.rowMajor (ix2 q 0) = q := by
  apply Fin.ext; rw [Shape.rowMajor_val_two]; show q.val * 1 + 0 = q.val; omega
theorem lane_index (q : Fin 4096) : S1x4096.rowMajor (ix2 0 q) = q := by
  apply Fin.ext; rw [Shape.rowMajor_val_two]; show 0 * 4096 + q.val = q.val; omega
theorem vec_index (q : Fin 100000) : S100000.rowMajor (ix1 q) = q := by
  apply Fin.ext; rw [Shape.rowMajor_val_one]

theorem op1_at (q : Fin 10000) : op1 (atC m) c (ix2 q 0) = FloatOps.ofBits (F := Ideal) .f32 (lit1 q) := by
  rw [show op1 (atC m) c = fun i => FloatOps.ofBits (F := Ideal) .f32 (lit1 (S10000x1.rowMajor i)) from
    (atC_keeps m c main_cst_0 (by decide) (by decide)).trans
      ((V3_of m c main_cst_0 (by decide)).trans ((V2_of m c main_cst_0 (by decide)).trans (V1_cst_0 m c)))]
  dsimp only
  rw [row_index]

theorem op2_at (q : Fin 10000) : op2 (atC m) c (ix2 q 0) = BitVec.ofNat 32 q.val := by
  rw [show op2 (atC m) c = fun i => lit2 (S10000x1.rowMajor i) from
    (atC_keeps m c main_c (by decide) (by decide)).trans
      ((V3_of m c main_c (by decide)).trans ((V2_of m c main_c (by decide)).trans (V1_c m c)))]
  dsimp only
  rw [row_index]
  exact count_rows q

theorem oio_at (q : Fin 4096) : oio (atA m) c (ix2 0 q) = BitVec.ofNat 32 q.val := by
  rw [show oio (atA m) c = fun i => lit3 (S1x4096.rowMajor i) from
    (atA_keeps m c main_c_1 (by decide)).trans ((atC_keeps m c main_c_1 (by decide) (by decide)).trans
      ((V3_of m c main_c_1 (by decide)).trans ((V2_of m c main_c_1 (by decide)).trans (V1_c_1 m c))))]
  dsimp only
  rw [lane_index]
  exact count_lanes q

/-! ## The bias rows -/

theorem op4_at (k : Fin 256) : op4 (atC m) c (ix2 0 k) = arg m c main_arg7 (ix1 k) := by
  have h : op4 (atC m) c = shapeCast S1x256 (V4 m (outsK m) c (Proc.devRef .tc main_arg7)) shapeCasts_S256_S1x256 := by
    show after hostOps1 (V4 m (outsK m) c) (Proc.devRef .tc main_v9) = _
    after_results
    rfl
  rw [h, V4_of m (outsK m) c main_arg7 (by decide), early_keeps m c main_arg7 (by decide) (by decide) (by decide)]
  exact shapeCast_a_1a_apply _ _ 0 k

theorem op8_at (k : Fin 256) : op8 (atC m) c (ix2 0 k) = arg m c main_arg3 (ix1 k) := by
  have h : op8 (atC m) c = shapeCast S1x256 (V4 m (outsK m) c (Proc.devRef .tc main_arg3)) shapeCasts_S256_S1x256 := by
    show after hostOps1 (V4 m (outsK m) c) (Proc.devRef .tc main_v11) = _
    after_results
    rfl
  rw [h, V4_of m (outsK m) c main_arg3 (by decide), early_keeps m c main_arg3 (by decide) (by decide) (by decide)]
  exact shapeCast_a_1a_apply _ _ 0 k

theorem op6_at (k : Fin 1) : op6 (atC m) c (ix2 0 k) = arg m c main_arg9 (ix1 k) := by
  have h : op6 (atC m) c = shapeCast S1x1 (V4 m (outsK m) c (Proc.devRef .tc main_arg9)) shapeCasts_S1_S1x1 := by
    show after hostOps1 (V4 m (outsK m) c) (Proc.devRef .tc main_v10) = _
    after_results
    rfl
  rw [h, V4_of m (outsK m) c main_arg9 (by decide), early_keeps m c main_arg9 (by decide) (by decide) (by decide)]
  exact shapeCast_a_1a_apply _ _ 0 k

/-! ## The masked biases and the score biases -/

/-- The second bias of transformation `j`. -/
def bias (j : Fin 100000) : EReal := arg m c main_arg5 (ix1 j)

/-- The penalty of transformation `j`: none where allowed. -/
def penalty (j : Fin 100000) : EReal :=
  if arg m c main_arg1 (ix1 j) = 1#1 then FloatOps.ofBits (F := Ideal) .f32 0x00000000#32 else FloatOps.ofBits (F := Ideal) .f32 0xD01502F9#32

theorem V3_v1 : V3 m c (Proc.devRef .tc main_v1)
    = addf (F := Ideal) (φ := .f32) (arg m c main_arg5) (select (arg m c main_arg1)
        (broadcastInDim S100000 ![] bcast_S_S100000 (constant (F := Ideal) S_ .f32 0x00000000#32))
        (broadcastInDim S100000 ![] bcast_S_S100000 (constant (F := Ideal) S_ .f32 0xD01502F9#32))) := by
  have h : V3 m c (Proc.devRef .tc main_v1)
      = addf (F := Ideal) (φ := .f32) (V2 m c (Proc.devRef .tc main_arg5)) (V2 m c (Proc.devRef .tc main_v0)) := by
    show after hostOps0_2 (V2 m c) (Proc.devRef .tc main_v1) = _
    after_results
  have h0 : V2 m c (Proc.devRef .tc main_v0)
      = select (V1 m c (Proc.devRef .tc main_arg1)) (broadcastInDim S100000 ![] bcast_S_S100000 (V1 m c (Proc.devRef .tc main_cst_2)))
        (broadcastInDim S100000 ![] bcast_S_S100000 (V1 m c (Proc.devRef .tc main_cst_3))) := by
    show after hostOps0_1 (V1 m c) (Proc.devRef .tc main_v0) = _
    after_results
    rfl
  rw [h, h0, V1_cst_2, V1_cst_3, V2_of m c main_arg5 (by decide), V1_of m c main_arg5 (by decide), V1_of m c main_arg1 (by decide)]

theorem V4_v2 : V4 m (outsK m) c (Proc.devRef .tc main_v2) = k0_pay1 (F := Ideal) :=
  (Function.update_self _ _ _).trans ((Pipeline.afterRegion_arr (datP (V3 m) c) (V3 m c) launch0.win.arr_inj 0).trans (padOut (V3 m) c))

theorem om_eq : om (atA m) c = shapeCast S1x102400 (concatenate S102400 0
      [⟨S100000, V3 m c (Proc.devRef .tc main_v1)⟩, ⟨S2400, k0_pay1 (F := Ideal)⟩] concatenates_S100000_S2400_S102400_d0) shapeCasts_S102400_S1x102400 := by
  refine (atA_keeps m c main_v4 (by decide)).trans ?_
  rw [← V4_v2 m c, ← V4_of m (outsK m) c main_v1 (by decide)]
  show after hostOps1 (V4 m (outsK m) c) (Proc.devRef .tc main_v4) = _
  after_results
  rfl

theorem os_eq : os (atA m) c = shapeCast S1x102400 (concatenate S102400 0
      [⟨S100000, addf (F := Ideal) (φ := .f32) (V3 m c (Proc.devRef .tc main_v1)) (fun i => FloatOps.ofBits (F := Ideal) .f32 (lit0 (S100000.rowMajor i)))⟩,
       ⟨S2400, broadcastInDim S2400 ![] bcast_S_S2400 (constant (F := Ideal) S_ .f32 0xFF800000#32)⟩] concatenates_S100000_S2400_S102400_d0) shapeCasts_S102400_S1x102400 := by
  refine (atA_keeps m c main_v8 (by decide)).trans ?_
  rw [show (fun i => FloatOps.ofBits (F := Ideal) .f32 (lit0 (S100000.rowMajor i)) : FVec Ideal S100000 .f32) = V4 m (outsK m) c (Proc.devRef .tc main_cst) from
    ((V4_of m (outsK m) c main_cst (by decide)).trans ((V3_of m c main_cst (by decide)).trans ((V2_of m c main_cst (by decide)).trans (V1_cst m c)))).symm,
    ← V4_of m (outsK m) c main_v1 (by decide)]
  show after hostOps1 (V4 m (outsK m) c) (Proc.devRef .tc main_v8) = _
  after_results
  rfl

theorem joined_lo (x : FVec Ideal S100000 .f32) (y : FVec Ideal S2400 .f32) (j : Fin 102400) (hj : j.val < 100000) :
    shapeCast S1x102400 (concatenate S102400 0 [⟨S100000, x⟩, ⟨S2400, y⟩] concatenates_S100000_S2400_S102400_d0) shapeCasts_S102400_S1x102400 (ix2 0 j)
      = x (ix1 ⟨j.val, hj⟩) := by
  rw [shapeCast_a_1a_apply (a := 102400)]
  exact concatenate_pair_apply_left (t := S102400) 0 x y concatenates_S100000_S2400_S102400_d0 (ix1 j) rfl (ix1 ⟨j.val, hj⟩)
    fun b => match b with | ⟨0, _⟩ => rfl

theorem joined_hi (x : FVec Ideal S100000 .f32) (y : FVec Ideal S2400 .f32) (j : Fin 102400) (hj : 100000 ≤ j.val) :
    shapeCast S1x102400 (concatenate S102400 0 [⟨S100000, x⟩, ⟨S2400, y⟩] concatenates_S100000_S2400_S102400_d0) shapeCasts_S102400_S1x102400 (ix2 0 j)
      = y (ix1 ⟨j.val - 100000, by have := j.isLt; omega⟩) := by
  rw [shapeCast_a_1a_apply (a := 102400)]
  refine concatenate_pair_apply_right (t := S102400) 0 x y concatenates_S100000_S2400_S102400_d0 (ix1 j) rfl rfl _ ?_ ?_
  · intro b hb
    match b with
    | ⟨0, _⟩ => exact absurd rfl hb
  · show j.val - 100000 + 100000 = j.val
    omega

theorem om_lo (j : Fin 102400) (hj : j.val < 100000) :
    om (atA m) c (ix2 0 j) = bias m c ⟨j.val, hj⟩ + penalty m c ⟨j.val, hj⟩ := by
  rw [om_eq, joined_lo _ _ j hj, V3_v1]
  rfl

theorem om_hi (j : Fin 102400) (hj : 100000 ≤ j.val) : om (atA m) c (ix2 0 j) = ⊥ := by
  rw [om_eq, joined_hi _ _ j hj]
  rfl

theorem os_lo (j : Fin 102400) (hj : j.val < 100000) :
    os (atA m) c (ix2 0 j) = (bias m c ⟨j.val, hj⟩ + penalty m c ⟨j.val, hj⟩) + FloatOps.ofBits (F := Ideal) .f32 (lit0 ⟨j.val, hj⟩) := by
  rw [os_eq, joined_lo _ _ j hj, V3_v1]
  show _ + FloatOps.ofBits (F := Ideal) .f32 (lit0 (S100000.rowMajor (ix1 ⟨j.val, hj⟩))) = _
  rw [vec_index]
  rfl

theorem os_hi (j : Fin 102400) (hj : 100000 ≤ j.val) : os (atA m) c (ix2 0 j) = ⊥ := by
  rw [os_eq, joined_hi _ _ j hj]
  exact neg_inf_f32

/-! ## The hidden row and the results -/

theorem oh_eq : oh (atA m) c = hidden (atC m) c :=
  (Function.update_self _ _ _).trans
    ((Pipeline.afterRegion_arr (datC (V5 m (outsP m)) c) (V5 m (outsP m) c) launch1.win.arr_inj 10).trans (criticOut10 (V5 m (outsP m)) c))

theorem V6_v12_0 : V6 m (outsK m) c (Proc.devRef .tc main_v12_0) = fun _ => picked (atC m) c := by
  rw [← after1]
  exact (Pipeline.afterRegion_arr (datC (V5 m (outsP m)) c) (V5 m (outsP m) c) launch1.win.arr_inj 9).trans (criticOut9 (V5 m (outsP m)) c)

theorem V7_v13_0 : V7 m (outsK m) c (Proc.devRef .tc main_v13_0) = fun _ => chosen (atA m) c := by
  rw [← after2]
  exact (Pipeline.afterRegion_arr (datA (V6 m (outsC m)) c) (V6 m (outsC m) c) launch2.win.arr_inj 5).trans (actorOut5 (V6 m (outsC m)) c)

theorem V7_v13_1 : V7 m (outsK m) c (Proc.devRef .tc main_v13_1) = fun _ => logp (atA m) c := by
  rw [← after2]
  exact (Pipeline.afterRegion_arr (datA (V6 m (outsC m)) c) (V6 m (outsC m) c) launch2.win.arr_inj 6).trans (actorOut6 (V6 m (outsC m)) c)

theorem V8_v14 : V8 m (outsK m) c (Proc.devRef .tc main_v14) = fun _ => picked (atC m) c := by
  have h : V8 m (outsK m) c (Proc.devRef .tc main_v14) = shapeCast S_ (V7 m (outsK m) c (Proc.devRef .tc main_v12_0)) shapeCasts_S1_S_ := by
    show after hostOps3 (V7 m (outsK m) c) (Proc.devRef .tc main_v14) = _
    after_results
    rfl
  rw [h, V7_of m (outsK m) c main_v12_0 (by decide), V6_v12_0]
  rfl

theorem V8_v15 : V8 m (outsK m) c (Proc.devRef .tc main_v15) = fun _ => chosen (atA m) c := by
  have h : V8 m (outsK m) c (Proc.devRef .tc main_v15) = shapeCast S_ (V7 m (outsK m) c (Proc.devRef .tc main_v13_0)) shapeCasts_S1_S_ := by
    show after hostOps3 (V7 m (outsK m) c) (Proc.devRef .tc main_v15) = _
    after_results
    rfl
  rw [h, V7_v13_0]
  rfl

theorem V8_v16 : V8 m (outsK m) c (Proc.devRef .tc main_v16) = fun _ => logp (atA m) c := by
  have h : V8 m (outsK m) c (Proc.devRef .tc main_v16) = shapeCast S_ (V7 m (outsK m) c (Proc.devRef .tc main_v13_1)) shapeCasts_S1_S_ := by
    show after hostOps3 (V7 m (outsK m) c) (Proc.devRef .tc main_v16) = _
    after_results
    rfl
  rw [h, V7_v13_1]
  rfl

end Cert.Proof

end
-- ==== Proof.Scores.lean ====
/-
  The three results as mathematics of the arguments: the node and the transformation as first positions of greatest
  noisy values, and the transformation's log-probability. Noise added before or after the normalization of a softmax
  has its first greatest value at the same position, since the normalization subtracts one real number throughout.
-/
module

public import proofs.«01_k».proof.Proof.Payload
public import proofs.«01_k».proof.Proof.RegionB

@[expose] public section

set_option maxRecDepth 65536

noncomputable section

namespace Cert.Proof

open Idealize.ShloMosaic
open Idealize.ShloMosaic.ValueIdx

/-- The arguments. -/
structure Args where
  x : FVec Ideal ⟨2, ![10000, 128]⟩ .f32
  mask : IVec ⟨1, ![100000]⟩ 1
  aw1 : FVec Ideal ⟨2, ![128, 256]⟩ .f32
  ab1 : FVec Ideal ⟨1, ![256]⟩ .f32
  aw2 : FVec Ideal ⟨2, ![256, 100000]⟩ .f32
  ab2 : FVec Ideal ⟨1, ![100000]⟩ .f32
  cw1 : FVec Ideal ⟨2, ![128, 256]⟩ .f32
  cb1 : FVec Ideal ⟨1, ![256]⟩ .f32
  cw2 : FVec Ideal ⟨2, ![256, 1]⟩ .f32
  cb2 : FVec Ideal ⟨1, ![1]⟩ .f32

/-- Every float argument holds reals. -/
structure Args.Real (A : Args) : Prop where
  x : ∀ i, IsReal (A.x i)
  aw1 : ∀ i, IsReal (A.aw1 i)
  ab1 : ∀ i, IsReal (A.ab1 i)
  aw2 : ∀ i, IsReal (A.aw2 i)
  ab2 : ∀ i, IsReal (A.ab2 i)
  cw1 : ∀ i, IsReal (A.cw1 i)
  cb1 : ∀ i, IsReal (A.cb1 i)
  cw2 : ∀ i, IsReal (A.cw2 i)
  cb2 : ∀ i, IsReal (A.cb2 i)

/-- The log-probability of position `p` under the softmax of `n` logits. -/
def logSoft (n : ℕ) (X : ℕ → EReal) (p : ℕ) : EReal :=
  (X p - (Finset.range n).sup X) - Ideal.log (expSum n X ((Finset.range n).sup X))

theorem log_real (n : ℕ) (hn : 0 < n) (X : ℕ → EReal) (hX : ∀ j, j < n → IsReal (X j)) (M : ℝ) : IsReal (Ideal.log (expSum n X M)) := by
  obtain ⟨s, hs, e⟩ := expSum_real n hn X hX M
  rw [e, Ideal.log_coe, if_neg (not_le.2 hs)]
  exact ⟨_, rfl⟩

theorem real_ne_top {x : EReal} (h : IsReal x) : x ≠ ⊤ := by
  obtain ⟨r, rfl⟩ := h; exact EReal.coe_ne_top r

theorem max_real (n : ℕ) (hn : 0 < n) (X : ℕ → EReal) (hX : ∀ j, j < n → IsReal (X j)) : IsReal ((Finset.range n).sup X) :=
  sup_real n X (fun j hj => real_ne_top (hX j hj)) hn (hX 0 hn)

/-- Noisy log-probabilities and noisy logits have their first greatest value at the same position. -/
theorem same_first (n : ℕ) (hn : 0 < n) (X G : ℕ → EReal) (hX : ∀ j, j < n → IsReal (X j)) {q : ℕ}
    (h : FirstMax n (fun j => logSoft n X j + G j) q) : FirstMax n (fun j => X j + G j) q := by
  obtain ⟨M, hM⟩ := max_real n hn X hX
  obtain ⟨L, hL⟩ := log_real n hn X hX M
  refine h.shift (M + L) fun j hj => ?_
  obtain ⟨r, hr⟩ := hX j hj
  unfold logSoft
  rw [hM, hL, hr, add_right_comm]
  congr 1
  rw [← EReal.coe_sub, ← EReal.coe_sub, ← EReal.coe_add]
  congr 1
  ring

namespace Args
variable (A : Args)

/-- The noise of the two draws. -/
def nodeNoise : ℕ → EReal := nat 10000 fun r => FloatOps.ofBits (F := Ideal) .f32 (Cert.KernelIdeal.lit1 r)
def xferNoise : ℕ → EReal := nat 100000 fun j => FloatOps.ofBits (F := Ideal) .f32 (Cert.KernelIdeal.lit0 j)

/-- The critic's scores. -/
def score : ℕ → EReal := nat 10000 (scoreC A.x A.cw1 (fun k => A.cb1 (ix1 k)) A.cw2 (A.cb2 (ix1 (0 : Fin 1))))

/-- The node drawn. -/
def node : ℕ := firstBest 10000 fun i => A.score i + nodeNoise i

theorem node_first : FirstMax 10000 (fun i => A.score i + nodeNoise i) A.node := by
  obtain ⟨j, hj⟩ := exists_firstMax 10000 (by omega) (fun i => A.score i + nodeNoise i)
  have : A.node = j := firstBest_eq hj
  rw [this]; exact hj

/-- The node drawn, as a row. -/
def row : Fin 10000 := ⟨A.node, A.node_first.1⟩

/-- What masking adds to the logit of transformation `j`. -/
def penalty (j : Fin 100000) : EReal :=
  if A.mask (ix1 j) = 1#1 then FloatOps.ofBits (F := Ideal) .f32 0x00000000#32 else FloatOps.ofBits (F := Ideal) .f32 0xD01502F9#32

/-- The masked logits of the drawn node. -/
def logit (j : Fin 100000) : EReal :=
  ((∑ k : Fin 256, unit A.x A.aw1 (fun k => A.ab1 (ix1 k)) A.row k * A.aw2 (ix2 k j)) + A.ab2 (ix1 j)) + A.penalty j
def logits : ℕ → EReal := nat 100000 A.logit

/-- The transformation drawn. -/
def xfer : ℕ := firstBest 100000 fun j => A.logits j + xferNoise j

theorem xfer_first : FirstMax 100000 (fun j => A.logits j + xferNoise j) A.xfer := by
  obtain ⟨j, hj⟩ := exists_firstMax 100000 (by omega) (fun j => A.logits j + xferNoise j)
  have : A.xfer = j := firstBest_eq hj
  rw [this]; exact hj

/-- Its log-probability. -/
def logprob : EReal := logSoft 100000 A.logits A.xfer

variable {A}

theorem unit_real {x : FVec Ideal ⟨2, ![10000, 128]⟩ .f32} {w : FVec Ideal ⟨2, ![128, 256]⟩ .f32} {b : Fin 256 → EReal} (hx : ∀ i, IsReal (x i))
    (hw : ∀ i, IsReal (w i)) (hb : ∀ k, IsReal (b k)) (r : Fin 10000) (k : Fin 256) : IsReal (unit x w b r k) :=
  ((IsReal.sum _ _ fun d _ => (hx _).mul (hw _)).add (hb k)).max IsReal.zero

theorem score_real (h : A.Real) (i : ℕ) (hi : i < 10000) : IsReal (A.score i) := by
  unfold score
  rw [nat_lt _ hi]
  exact (IsReal.sum _ _ fun k _ => (unit_real h.x h.cw1 (fun k => h.cb1 _) _ k).mul (h.cw2 _)).add (h.cb2 _)

theorem penalty_real (A : Args) (j : Fin 100000) : IsReal (A.penalty j) := by
  unfold penalty
  split
  · rw [zero_f32]; exact IsReal.zero
  · show IsReal (Ideal.ieee 8 23 0xD01502F9#32)
    refine ⟨-10000000000, ?_⟩
    simp [Ideal.ieee, -EReal.coe_mul]; norm_num

theorem sum_real (h : A.Real) (j : Fin 100000) :
    IsReal (∑ k : Fin 256, unit A.x A.aw1 (fun k => A.ab1 (ix1 k)) A.row k * A.aw2 (ix2 k j)) :=
  IsReal.sum _ _ fun k _ => (unit_real h.x h.aw1 (fun k => h.ab1 _) _ k).mul (h.aw2 _)

theorem logit_real (h : A.Real) (j : Fin 100000) : IsReal (A.logit j) :=
  ((sum_real h j).add (h.ab2 _)).add (A.penalty_real j)

theorem logits_real (h : A.Real) (j : ℕ) (hj : j < 100000) : IsReal (A.logits j) := by
  unfold logits; rw [nat_lt _ hj]; exact logit_real h _

end Args

end Cert.Proof

end
-- ==== Proof.Facts.lean ====
/-
  What the precondition says of the arguments, and what three printed words denote.
-/
module

public import proofs.«01_k».proof.Proof.Maths
public import proofs.«01_k».proof.Proof.Tables
public import proofs.«01_k».proof.Proof.Gen.Pre_finite
public import Idealize.ShloMosaic.Lib.ReduceAll
public import Idealize.ShloMosaic.Lib.ValueIdxCore
public import Idealize.ShloMosaic.Lib.IdealHost

@[expose] public section

set_option maxRecDepth 65536

noncomputable section

namespace Cert.Proof

open Idealize.ShloMosaic

/-- A value less in size than +∞ is real. -/
theorem real_of_abs_lt (x : EReal) (h : max x (-x) < ⊤) : IsReal x := by
  induction x with
  | bot => simp at h
  | top => simp at h
  | coe r => exact ⟨r, rfl⟩

theorem pos_inf_f32 : (FloatOps.ofBits (F := Ideal) .f32 0x7F800000#32 : EReal) = ⊤ := by
  show Ideal.ieee 8 23 0x7F800000#32 = ⊤
  simp [Ideal.ieee]

instance scalar_one : Subsingleton (Shape.Idx ⟨0, ![]⟩) := ⟨fun a b => funext fun i => i.elim0⟩

/-- An array found finite holds reals. -/
theorem finite_real {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel) (j)
    (h : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : IsReal (x i) := by
  have h1 := Host.reduce_andi_all _ _ hr hu j h i
  have h2 : BitVec.ofBool (decide ((max (x i : EReal) (-(x i : EReal))) < FloatOps.ofBits (F := Ideal) .f32 0x7F800000#32)) = 1#1 := h1
  rw [pos_inf_f32] at h2
  refine real_of_abs_lt _ ?_
  by_contra hc
  rw [decide_eq_false hc] at h2
  exact absurd h2 (by decide)

theorem both_one {a b : IVec ⟨0, ![]⟩ 1} {j} (h : andi a b j = 1#1) : a j = 1#1 ∧ b j = 1#1 := IntOp.andi_eq_one.1 h

open Cert.Pre_finite Cert.Pre_finite.Gen in
/-- The precondition: every float argument holds reals. -/
theorem all_real (x0 : FVec Ideal S10000x128 .f32) (x1 : IVec S100000 1) (x2 : FVec Ideal S128x256 .f32) (x3 : FVec Ideal S256 .f32)
    (x4 : FVec Ideal S256x100000 .f32) (x5 : FVec Ideal S100000 .f32) (x6 : FVec Ideal S128x256 .f32) (x7 : FVec Ideal S256 .f32)
    (x8 : FVec Ideal S256x1 .f32) (x9 : FVec Ideal S1 .f32)
    (h : Cert.Pre_finite.fn (F := Ideal) x0 x1 x2 x3 x4 x5 x6 x7 x8 x9 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i)) := by
  have e := congrFun h ValueIdx.ix0
  unfold fn fn_part1 fn_part2 at e
  dsimp only at e
  obtain ⟨e, e9⟩ := both_one e
  obtain ⟨e, e8⟩ := both_one e
  obtain ⟨e, e7⟩ := both_one e
  obtain ⟨e, e6⟩ := both_one e
  obtain ⟨e, e5⟩ := both_one e
  obtain ⟨e, e4⟩ := both_one e
  obtain ⟨e, e3⟩ := both_one e
  obtain ⟨e0, e2⟩ := both_one e
  exact ⟨finite_real x0 _ _ _ _ e0, finite_real x2 _ _ _ _ e2, finite_real x3 _ _ _ _ e3, finite_real x4 _ _ _ _ e4, finite_real x5 _ _ _ _ e5,
    finite_real x6 _ _ _ _ e6, finite_real x7 _ _ _ _ e7, finite_real x8 _ _ _ _ e8, finite_real x9 _ _ _ _ e9⟩

/-! ## The penalty and the first noise word -/

theorem big_word : (FloatOps.ofBits (F := Ideal) .f32 0x501502F9#32 : EReal) = ((10000000000 : ℝ) : EReal) := by
  show Ideal.ieee 8 23 0x501502F9#32 = _
  simp [Ideal.ieee, -EReal.coe_mul]; norm_num

theorem neg_big_word : (FloatOps.ofBits (F := Ideal) .f32 0xD01502F9#32 : EReal) = ((-10000000000 : ℝ) : EReal) := by
  show Ideal.ieee 8 23 0xD01502F9#32 = _
  simp [Ideal.ieee, -EReal.coe_mul]; norm_num

theorem noise_first : IsReal (FloatOps.ofBits (F := Ideal) .f32 (Cert.KernelIdeal.lit0 0) : EReal) := by
  rw [show Cert.KernelIdeal.lit0 0 = 0x3EE892E6#32 from rfl]
  show IsReal (Ideal.ieee 8 23 0x3EE892E6#32)
  refine ⟨15241958 / 33554432, ?_⟩
  simp [Ideal.ieee, -EReal.coe_mul]; norm_num

end Cert.Proof

end
-- ==== Proof.ValueK.lean ====
/-
  The kernel's three results, as the mathematics of the arguments.
-/
module

public import proofs.«01_k».proof.Proof.HostK
public import proofs.«01_k».proof.Proof.Scores
public import proofs.«01_k».proof.Proof.Facts

@[expose] public section

set_option maxRecDepth 65536
set_option backward.isDefEq.respectTransparency.types false

noncomputable section

namespace Cert.Proof

open Cert.KernelIdeal Cert.KernelIdeal.Gen

open Idealize.ShloMosaic Idealize.SL.Sem
open Idealize.ShloMosaic.TcCoe Idealize.ShloMosaic.StableHlo
open Idealize.ShloMosaic.ValueIdx

variable (m : (ℓ : Loc nD τ sig) → Buf (Elt Ideal) ℓ) (c : Dev nD)

/-- The arguments on core `c`. -/
def argsK : Args where
  x := arg m c main_arg0
  mask := arg m c main_arg1
  aw1 := arg m c main_arg2
  ab1 := arg m c main_arg3
  aw2 := arg m c main_arg4
  ab2 := arg m c main_arg5
  cw1 := arg m c main_arg6
  cb1 := arg m c main_arg7
  cw2 := arg m c main_arg8
  cb2 := arg m c main_arg9

theorem picked_eq : picked (atC m) c = BitVec.ofNat 32 (argsK m c).node := by
  obtain ⟨q, hq, he⟩ := pick_first (op0 (atC m) c) (op1 (atC m) c) (op2 (atC m) c) (op3 (atC m) c) (op4 (atC m) c) (op5 (atC m) c) (op6 (atC m) c)
    (op2_at m c)
  have h1 : FirstMax 10000 (fun i => (argsK m c).score i + Args.nodeNoise i) q := by
    refine hq.congr fun i hi => ?_
    unfold Args.score Args.nodeNoise
    rw [nat_lt _ hi, nat_lt _ hi, nat_lt _ hi, op1_at, op0_eq, op3_eq, op5_eq, op6_at,
      show (fun k : Fin 256 => op4 (atC m) c (ix2 (0 : Fin 1) k)) = fun k => arg m c main_arg7 (ix1 k) from funext (op4_at m c)]
    rfl
  rw [show (argsK m c).node = q from firstBest_eq h1]
  exact he

theorem chk : ∀ c, k1_chk1 (picked (atC m) c) := by
  intro c a
  rw [picked_eq]
  have h := (argsK m c).node_first.1
  match a with
  | ⟨0, _⟩ =>
    show (BitVec.ofNat 32 (argsK m c).node).toNat + 1 ≤ 10000
    rw [BitVec.toNat_ofNat, Nat.mod_eq_of_lt (by omega)]; omega
  | ⟨1, _⟩ => show 0 + 128 ≤ 128; omega

theorem oh_at (k : Fin 256) : oh (atA m) c (ix2 0 k) = unit (argsK m c).x (argsK m c).aw1 (fun k => (argsK m c).ab1 (ix1 k)) (argsK m c).row k := by
  rw [oh_eq, hidden_eq (atC m) (chk m) c]
  have h := hid_apply (op0 (atC m) c) (picked (atC m) c) (chk m c) (argsK m c).row (picked_eq m c) (op7 (atC m) c) (op8 (atC m) c) k
  refine h.trans ?_
  rw [op0_eq, op7_eq, show (fun k : Fin 256 => op8 (atC m) c (ix2 (0 : Fin 1) k)) = fun k => arg m c main_arg3 (ix1 k) from funext (op8_at m c)]
  rfl

theorem xK_lo (j : ℕ) (hj : j < 100000) : xK (atA m) c j = (argsK m c).logits j := by
  unfold Args.logits
  rw [nat_lt _ hj]
  show line (oh (atA m) c) (ow (atA m) c) (om (atA m) c) j = _
  unfold line
  rw [dif_pos hj, om_lo m c ⟨j, by omega⟩ hj, Finset.sum_congr rfl fun k _ => by rw [oh_at, ow_eq]]
  exact (add_assoc _ _ _).symm

theorem xK_hi (j : ℕ) (hj : ¬ j < 100000) : xK (atA m) c j = ⊥ := dif_neg hj

theorem sK_lo (j : ℕ) (hj : j < 100000) : sK (atA m) c j = (argsK m c).logits j + Args.xferNoise j := by
  unfold Args.logits Args.xferNoise
  rw [nat_lt _ hj, nat_lt _ hj]
  show line (oh (atA m) c) (ow (atA m) c) (os (atA m) c) j = _
  unfold line
  rw [dif_pos hj, os_lo m c ⟨j, by omega⟩ hj, Finset.sum_congr rfl fun k _ => by rw [oh_at, ow_eq]]
  refine (add_assoc _ _ _).symm.trans ?_
  exact congrArg (· + _) (add_assoc _ _ _).symm

theorem sK_hi (j : ℕ) (hj : ¬ j < 100000) : sK (atA m) c j = ⊥ := dif_neg hj

/-- The actor's biases are padded by −∞, whatever the arguments. -/
theorem padded : ∀ c, Padded (atA m) c := fun c => ⟨om_hi m c, os_hi m c⟩

variable (hr : ∀ c, (argsK m c).Real)
include hr

theorem fit : ∀ c, Fit (atA m) c := fun c =>
  { lanes := oio_at m c
    padm := om_hi m c
    pads := os_hi m c
    lt := fun j => by
      by_cases hj : j < 100000
      · rw [xK_lo m c j hj]; exact real_ne_top (Args.logits_real (hr c) j hj)
      · rw [xK_hi m c j hj]; exact bot_ne_top
    x0 := by rw [xK_lo m c 0 (by omega)]; exact Args.logits_real (hr c) 0 (by omega)
    s0 := by
      rw [sK_lo m c 0 (by omega)]
      refine (Args.logits_real (hr c) 0 (by omega)).add ?_
      unfold Args.xferNoise
      rw [nat_lt _ (by omega)]
      exact noise_first }

omit hr in
theorem best_eq : firstBest 102400 (sK (atA m) c) = (argsK m c).xfer := by
  refine firstBest_eq ?_
  have h := (argsK m c).xfer_first
  have hlt := h.1
  refine ⟨by omega, fun i hi => ?_, fun i hi => ?_⟩
  · by_cases h' : i < 100000
    · rw [sK_lo m c i h', sK_lo m c _ hlt]; exact h.2.1 i h'
    · rw [sK_hi m c i h']; exact bot_le
  · rw [sK_lo m c i (by omega), sK_lo m c _ hlt]; exact h.2.2 i hi

theorem chosen_eq : chosen (atA m) c = BitVec.ofNat 32 (argsK m c).xfer := by
  rw [(results_eq (atA m) c (fit m hr c)).1, best_eq]

omit hr in
theorem sup_eq : (Finset.range 102400).sup (xK (atA m) c) = (Finset.range 100000).sup (argsK m c).logits := by
  refine le_antisymm (Finset.sup_le fun i _ => ?_) (Finset.sup_le fun i hi => ?_)
  · by_cases h : i < 100000
    · rw [xK_lo m c i h]; exact Finset.le_sup (f := (argsK m c).logits) (Finset.mem_range.2 h)
    · rw [xK_hi m c i h]; exact bot_le
  · have h := Finset.mem_range.1 hi
    rw [← xK_lo m c i h]; exact Finset.le_sup (f := xK (atA m) c) (Finset.mem_range.2 (by omega))

omit hr in
theorem expSum_eq (M : EReal) : expSum 102400 (xK (atA m) c) M = expSum 100000 (argsK m c).logits M := by
  rw [show (102400 : ℕ) = 100000 + 2400 from rfl, expSum_pad 100000 2400 (xK (atA m) c) (fun j h _ => xK_hi m c j (by omega)) M]
  unfold expSum
  exact Finset.sum_congr rfl fun j hj => by rw [xK_lo m c j (Finset.mem_range.1 hj)]

theorem logp_eq : logp (atA m) c = (argsK m c).logprob := by
  have hlt := (argsK m c).xfer_first.1
  rw [(results_eq (atA m) c (fit m hr c)).2]
  unfold Args.logprob logSoft
  rw [best_eq, sup_eq, expSum_eq, xK_lo m c _ hlt]
  obtain ⟨M, hM⟩ := max_real 100000 (by omega) _ (Args.logits_real (hr c))
  obtain ⟨r, hp⟩ := Args.logits_real (hr c) _ hlt
  rw [hM, hp]
  exact sub_sub_log r M _

end Cert.Proof

end
-- ==== Proof.RefRun.lean ====
/-
  The reference's run: its operations in order, in ten stretches, and what each buffer holds at the end.
-/
module

public import proofs.«01_k».proof.Proof.Gen.ReferenceIdeal
public import Idealize.ShloMosaic.Lib.StableHlo.Run
public import Idealize.ShloMosaic.Lib.Quiescent
public import Idealize.ShloMosaic.PureOps.Ideal

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations that compute the critic scores. -/
abbrev scoreOps : List (HloOp τ sig (Elt F)) :=
  [ nullary main_cst (fun i => FloatOps.ofBits .f32 (lit0 (S10000.rowMajor i))),
    nullary main_cst_0 (fun i => FloatOps.ofBits .f32 (lit1 (S100000.rowMajor i))),
    binary main_arg0 main_arg6 main_v0 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    unary main_arg7 main_v1 (broadcastInDim S1x256 ![1] bcast_S256_S1x256_1 : (⟨S256, .f32⟩ : BufTy).Contents (Elt F) → (⟨S1x256, .f32⟩ : BufTy).Contents (Elt F)),
    unary main_v1 main_v2 (broadcastInDim S10000x256 ![0, 1] bcast_S1x256_S10000x256_0_1 : (⟨S1x256, .f32⟩ : BufTy).Contents (Elt F) → (⟨S10000x256, .f32⟩ : BufTy).Contents (Elt F)),
    binary main_v0 main_v2 main_v3 (addf : (⟨S10000x256, .f32⟩ : BufTy).Contents (Elt F) → (⟨S10000x256, .f32⟩ : BufTy).Contents (Elt F) → (⟨S10000x256, .f32⟩ : BufTy).Contents (Elt F)),
    nullary main_cst_1 (constant S_ .f32 0x00000000#32),
    unary main_cst_1 main_v4 (broadcastInDim S10000x256 ![] bcast_S_S10000x256 : (⟨S_, .f32⟩ : BufTy).Contents (Elt F) → (⟨S10000x256, .f32⟩ : BufTy).Contents (Elt F)),
    binary main_v3 main_v4 main_v5 (maximumf : (⟨S10000x256, .f32⟩ : BufTy).Contents (Elt F) → (⟨S10000x256, .f32⟩ : BufTy).Contents (Elt F) → (⟨S10000x256, .f32⟩ : BufTy).Contents (Elt F)),
    binary main_v5 main_arg8 main_v6 ((fun l r => Host.dotGeneral dot_S10000x256_S256x1_S10000x1_1_0_0_1_n_n none l r) : (⟨S10000x256, .f32⟩ : BufTy).Contents (Elt F) → (⟨S256x1, .f32⟩ : BufTy).Contents (Elt F) → (⟨S10000x1, .f32⟩ : BufTy).Contents (Elt F)),
    unary main_arg9 main_v7 (broadcastInDim S1x1 ![1] bcast_S1_S1x1_1 : (⟨S1, .f32⟩ : BufTy).Contents (Elt F) → (⟨S1x1, .f32⟩ : BufTy).Contents (Elt F)),
    unary main_v7 main_v8 (broadcastInDim S10000x1 ![0, 1] bcast_S1x1_S10000x1_0_1 : (⟨S1x1, .f32⟩ : BufTy).Contents (Elt F) → (⟨S10000x1, .f32⟩ : BufTy).Contents (Elt F)),
    binary main_v6 main_v8 main_v9 (addf : (⟨S10000x1, .f32⟩ : BufTy).Contents (Elt F) → (⟨S10000x1, .f32⟩ : BufTy).Contents (Elt F) → (⟨S10000x1, .f32⟩ : BufTy).Contents (Elt F)),
    reshape main_v9 main_v10 (rfl : (.f32 : EltTy) = .f32) shapeCasts_S10000x1_S10000 ]

/-- What they write. -/
abbrev scoreOps_W : List (Ref sig .tc) := [main_cst, main_cst_0, main_v0, main_v1, main_v2, main_v3, main_cst_1, main_v4, main_v5, main_v6, main_v7, main_v8, main_v9, main_v10]

/-- The operations that compute the node log-probabilities with their noise. -/
abbrev noisyOps : List (HloOp τ sig (Elt F)) :=
  [ nullary main_cst_2 (constant S_ .f32 0xFF800000#32),
    binary main_v10 main_cst_2 main_v11 ((fun x v => Host.reduce FloatOps.maximumf x v reducesTo_S10000_S_d0 h_S_) : (⟨S10000, .f32⟩ : BufTy).Contents (Elt F) → (⟨S_, .f32⟩ : BufTy).Contents (Elt F) → (⟨S_, .f32⟩ : BufTy).Contents (Elt F)),
    unary main_v11 main_v12 (broadcastInDim S10000 ![] bcast_S_S10000 : (⟨S_, .f32⟩ : BufTy).Contents (Elt F) → (⟨S10000, .f32⟩ : BufTy).Contents (Elt F)),
    binary main_v10 main_v12 main_v13 (subf : (⟨S10000, .f32⟩ : BufTy).Contents (Elt F) → (⟨S10000, .f32⟩ : BufTy).Contents (Elt F) → (⟨S10000, .f32⟩ : BufTy).Contents (Elt F)),
    unary main_v13 main_v14 (Host.exp : (⟨S10000, .f32⟩ : BufTy).Contents (Elt F) → (⟨S10000, .f32⟩ : BufTy).Contents (Elt F)),
    nullary main_cst_3 (constant S_ .f32 0x00000000#32),
    binary main_v14 main_cst_3 main_v15 ((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F)),
    unary main_v15 main_v16 (Host.log : (⟨S_, .f32⟩ : BufTy).Contents (Elt F) → (⟨S_, .f32⟩ : BufTy).Contents (Elt F)),
    unary main_v16 main_v17 (broadcastInDim S10000 ![] bcast_S_S10000 : (⟨S_, .f32⟩ : BufTy).Contents (Elt F) → (⟨S10000, .f32⟩ : BufTy).Contents (Elt F)),
    binary main_v13 main_v17 main_v18 (subf : (⟨S10000, .f32⟩ : BufTy).Contents (Elt F) → (⟨S10000, .f32⟩ : BufTy).Contents (Elt F) → (⟨S10000, .f32⟩ : BufTy).Contents (Elt F)),
    binary main_v18 main_cst main_v19 (addf : (⟨S10000, .f32⟩ : BufTy).Contents (Elt F) → (⟨S10000, .f32⟩ : BufTy).Contents (Elt F) → (⟨S10000, .f32⟩ : BufTy).Contents (Elt F)) ]

/-- What they write. -/
abbrev noisyOps_W : List (Ref sig .tc) := [main_cst_2, main_v11, main_v12, main_v13, main_v14, main_cst_3, main_v15, main_v16, main_v17, main_v18, main_v19]

/-- The operations that compute the node. -/
abbrev nodeOps : List (HloOp τ sig (Elt F)) :=
  [ nullary main_call0_v0 (iotaInDim S10000 32 0),
    nullary main_call0_cst (constant S_ .f32 0xFF800000#32),
    nullary main_call0_c (constantI S_ 32 0#32),
    quaternary main_v19 main_call0_v0 main_call0_cst main_call0_c main_call0_v1_0 (fun x y u v j => (Host.argReduce reducer_argmax_f32_i32 x y u v reducesTo_S10000_S_d0 h_S_ j).1),
    quaternary main_v19 main_call0_v0 main_call0_cst main_call0_c main_v20 (fun x y u v j => (Host.argReduce reducer_argmax_f32_i32 x y u v reducesTo_S10000_S_d0 h_S_ j).2) ]

/-- What they write. -/
abbrev nodeOps_W : List (Ref sig .tc) := [main_call0_v0, main_call0_cst, main_call0_c, main_call0_v1_0, main_v20]

/-- The operations that compute where the node's row starts. -/
abbrev startOps : List (HloOp τ sig (Elt F)) :=
  [ nullary main_c (constantI S_ 32 0#32),
    binary main_v20 main_c main_v21 (cmpi .slt : (⟨S_, .i32⟩ : BufTy).Contents (Elt F) → (⟨S_, .i32⟩ : BufTy).Contents (Elt F) → (⟨S_, .i1⟩ : BufTy).Contents (Elt F)),
    nullary main_c_4 (constantI S_ 32 10000#32),
    binary main_v20 main_c_4 main_v22 (addi : (⟨S_, .i32⟩ : BufTy).Contents (Elt F) → (⟨S_, .i32⟩ : BufTy).Contents (Elt F) → (⟨S_, .i32⟩ : BufTy).Contents (Elt F)),
    ternary main_v21 main_v22 main_v20 main_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_5 (constantI S_ 32 0#32),
    nullary main_c_6 (constantI S_ 32 0#32),
    binary main_c_5 main_c_6 main_v24 (cmpi .slt : (⟨S_, .i32⟩ : BufTy).Contents (Elt F) → (⟨S_, .i32⟩ : BufTy).Contents (Elt F) → (⟨S_, .i1⟩ : BufTy).Contents (Elt F)),
    nullary main_c_7 (constantI S_ 32 0#32),
    nullary main_c_8 (constantI S_ 32 128#32),
    binary main_c_7 main_c_8 main_v25 (addi : (⟨S_, .i32⟩ : BufTy).Contents (Elt F) → (⟨S_, .i32⟩ : BufTy).Contents (Elt F) → (⟨S_, .i32⟩ : BufTy).Contents (Elt F)),
    nullary main_c_9 (constantI S_ 32 0#32),
    ternary main_v24 main_v25 main_c_9 main_v26 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- What they write. -/
abbrev startOps_W : List (Ref sig .tc) := [main_c, main_v21, main_c_4, main_v22, main_v23, main_c_5, main_c_6, main_v24, main_c_7, main_c_8, main_v25, main_c_9, main_v26]

/-- The operations that compute the row of the node. -/
abbrev rowOps : List (HloOp τ sig (Elt F)) :=
  [ unaryIndexed main_arg0 ![main_v23, main_v26] ⟨S_, .i32⟩ main_v27 ((fun x i => Host.dynamicSlice S1x128 x (fun k => (i k (Shape.Idx.first h_S_)).toInt) sliceFits_S10000x128_S1x128) : (⟨S10000x128, .f32⟩ : BufTy).Contents (Elt F) → (Fin 2 → (⟨S_, .i32⟩ : BufTy).Contents (Elt F)) → (⟨S1x128, .f32⟩ : BufTy).Contents (Elt F)),
    reshape main_v27 main_v28 (rfl : (.f32 : EltTy) = .f32) shapeCasts_S1x128_S128 ]

/-- What they write. -/
abbrev rowOps_W : List (Ref sig .tc) := [main_v27, main_v28]

/-- The operations that compute the masked logits. -/
abbrev logitOps : List (HloOp τ sig (Elt F)) :=
  [ binary main_v28 main_arg2 main_v29 ((fun l r => Host.dotGeneral dot_S128_S128x256_S256_0_0_n_1_n_n none l r) : (⟨S128, .f32⟩ : BufTy).Contents (Elt F) → (⟨S128x256, .f32⟩ : BufTy).Contents (Elt F) → (⟨S256, .f32⟩ : BufTy).Contents (Elt F)),
    binary main_v29 main_arg3 main_v30 (addf : (⟨S256, .f32⟩ : BufTy).Contents (Elt F) → (⟨S256, .f32⟩ : BufTy).Contents (Elt F) → (⟨S256, .f32⟩ : BufTy).Contents (Elt F)),
    nullary main_cst_10 (constant S_ .f32 0x00000000#32),
    unary main_cst_10 main_v31 (broadcastInDim S256 ![] bcast_S_S256 : (⟨S_, .f32⟩ : BufTy).Contents (Elt F) → (⟨S256, .f32⟩ : BufTy).Contents (Elt F)),
    binary main_v30 main_v31 main_v32 (maximumf : (⟨S256, .f32⟩ : BufTy).Contents (Elt F) → (⟨S256, .f32⟩ : BufTy).Contents (Elt F) → (⟨S256, .f32⟩ : BufTy).Contents (Elt F)),
    binary main_v32 main_arg4 main_v33 ((fun l r => Host.dotGeneral dot_S256_S256x100000_S100000_0_0_n_1_n_n none l r) : (⟨S256, .f32⟩ : BufTy).Contents (Elt F) → (⟨S256x100000, .f32⟩ : BufTy).Contents (Elt F) → (⟨S100000, .f32⟩ : BufTy).Contents (Elt F)),
    binary main_v33 main_arg5 main_v34 (addf : (⟨S100000, .f32⟩ : BufTy).Contents (Elt F) → (⟨S100000, .f32⟩ : BufTy).Contents (Elt F) → (⟨S100000, .f32⟩ : BufTy).Contents (Elt F)),
    nullary main_cst_11 (constant S_ .f32 0x501502F9#32),
    unary main_cst_11 main_v35 (broadcastInDim S100000 ![] bcast_S_S100000 : (⟨S_, .f32⟩ : BufTy).Contents (Elt F) → (⟨S100000, .f32⟩ : BufTy).Contents (Elt F)),
    binary main_v34 main_v35 main_v36 (subf : (⟨S100000, .f32⟩ : BufTy).Contents (Elt F) → (⟨S100000, .f32⟩ : BufTy).Contents (Elt F) → (⟨S100000, .f32⟩ : BufTy).Contents (Elt F)),
    ternary main_arg1 main_v34 main_v36 main_v37 select ]

/-- What they write. -/
abbrev logitOps_W : List (Ref sig .tc) := [main_v29, main_v30, main_cst_10, main_v31, main_v32, main_v33, main_v34, main_cst_11, main_v35, main_v36, main_v37]

/-- The operations that compute the transformations' log-probabilities. -/
abbrev logprobOps : List (HloOp τ sig (Elt F)) :=
  [ nullary main_cst_12 (constant S_ .f32 0xFF800000#32),
    binary main_v37 main_cst_12 main_v38 ((fun x v => Host.reduce FloatOps.maximumf x v reducesTo_S100000_S_d0 h_S_) : (⟨S100000, .f32⟩ : BufTy).Contents (Elt F) → (⟨S_, .f32⟩ : BufTy).Contents (Elt F) → (⟨S_, .f32⟩ : BufTy).Contents (Elt F)),
    unary main_v38 main_v39 (broadcastInDim S100000 ![] bcast_S_S100000 : (⟨S_, .f32⟩ : BufTy).Contents (Elt F) → (⟨S100000, .f32⟩ : BufTy).Contents (Elt F)),
    binary main_v37 main_v39 main_v40 (subf : (⟨S100000, .f32⟩ : BufTy).Contents (Elt F) → (⟨S100000, .f32⟩ : BufTy).Contents (Elt F) → (⟨S100000, .f32⟩ : BufTy).Contents (Elt F)),
    unary main_v40 main_v41 (Host.exp : (⟨S100000, .f32⟩ : BufTy).Contents (Elt F) → (⟨S100000, .f32⟩ : BufTy).Contents (Elt F)),
    nullary main_cst_13 (constant S_ .f32 0x00000000#32),
    binary main_v41 main_cst_13 main_v42 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    unary main_v42 main_v43 (Host.log : (⟨S_, .f32⟩ : BufTy).Contents (Elt F) → (⟨S_, .f32⟩ : BufTy).Contents (Elt F)),
    unary main_v43 main_v44 (broadcastInDim S100000 ![] bcast_S_S100000 : (⟨S_, .f32⟩ : BufTy).Contents (Elt F) → (⟨S100000, .f32⟩ : BufTy).Contents (Elt F)),
    binary main_v40 main_v44 main_v45 (subf : (⟨S100000, .f32⟩ : BufTy).Contents (Elt F) → (⟨S100000, .f32⟩ : BufTy).Contents (Elt F) → (⟨S100000, .f32⟩ : BufTy).Contents (Elt F)) ]

/-- What they write. -/
abbrev logprobOps_W : List (Ref sig .tc) := [main_cst_12, main_v38, main_v39, main_v40, main_v41, main_cst_13, main_v42, main_v43, main_v44, main_v45]

/-- The operations that compute the transformation. -/
abbrev xferOps : List (HloOp τ sig (Elt F)) :=
  [ binary main_v45 main_cst_0 main_v46 (addf : (⟨S100000, .f32⟩ : BufTy).Contents (Elt F) → (⟨S100000, .f32⟩ : BufTy).Contents (Elt F) → (⟨S100000, .f32⟩ : BufTy).Contents (Elt F)),
    nullary main_call2_v0 (iotaInDim S100000 32 0),
    nullary main_call2_cst (constant S_ .f32 0xFF800000#32),
    nullary main_call2_c (constantI S_ 32 0#32),
    quaternary main_v46 main_call2_v0 main_call2_cst main_call2_c main_call2_v1_0 (fun x y u v j => (Host.argReduce reducer_argmax_f32_i32 x y u v reducesTo_S100000_S_d0 h_S_ j).1),
    quaternary main_v46 main_call2_v0 main_call2_cst main_call2_c main_v47 (fun x y u v j => (Host.argReduce reducer_argmax_f32_i32 x y u v reducesTo_S100000_S_d0 h_S_ j).2) ]

/-- What they write. -/
abbrev xferOps_W : List (Ref sig .tc) := [main_v46, main_call2_v0, main_call2_cst, main_call2_c, main_call2_v1_0, main_v47]

/-- The operations that compute where its entry stands. -/
abbrev placeOps : List (HloOp τ sig (Elt F)) :=
  [ nullary main_c_14 (constantI S_ 32 0#32),
    binary main_v47 main_c_14 main_v48 (cmpi .slt : (⟨S_, .i32⟩ : BufTy).Contents (Elt F) → (⟨S_, .i32⟩ : BufTy).Contents (Elt F) → (⟨S_, .i1⟩ : BufTy).Contents (Elt F)),
    nullary main_c_15 (constantI S_ 32 100000#32),
    binary main_v47 main_c_15 main_v49 (addi : (⟨S_, .i32⟩ : BufTy).Contents (Elt F) → (⟨S_, .i32⟩ : BufTy).Contents (Elt F) → (⟨S_, .i32⟩ : BufTy).Contents (Elt F)),
    ternary main_v48 main_v49 main_v47 main_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- What they write. -/
abbrev placeOps_W : List (Ref sig .tc) := [main_c_14, main_v48, main_c_15, main_v49, main_v50]

/-- The operations that compute its log-probability. -/
abbrev lastOps : List (HloOp τ sig (Elt F)) :=
  [ unaryIndexed main_v45 ![main_v50] ⟨S_, .i32⟩ main_v51 ((fun x i => Host.dynamicSlice S1 x (fun k => (i k (Shape.Idx.first h_S_)).toInt) sliceFits_S100000_S1) : (⟨S100000, .f32⟩ : BufTy).Contents (Elt F) → (Fin 1 → (⟨S_, .i32⟩ : BufTy).Contents (Elt F)) → (⟨S1, .f32⟩ : BufTy).Contents (Elt F)),
    reshape main_v51 main_v52 (rfl : (.f32 : EltTy) = .f32) shapeCasts_S1_S_ ]

/-- What they write. -/
abbrev lastOps_W : List (Ref sig .tc) := [main_v51, main_v52]

/-- All of them, in order. -/
def allOps : List (HloOp τ sig (Elt F)) := scoreOps ++ (noisyOps ++ (nodeOps ++ (startOps ++ (rowOps ++ (logitOps ++ (logprobOps ++ (xferOps ++ (placeOps ++ lastOps))))))))

set_option maxHeartbeats 4000000 in
theorem main_eq (c : Dev nD) : main (F := F) c = seq allOps := rfl

theorem scopedRefs_eq : (Finset.univ.filter fun b : Ref sig .tc => b.isScoped) = ∅ := by decide +kernel
theorem scopedSems_eq : (Finset.univ.filter fun sm : SemLoc sig => sm.isScoped .tc) = ∅ := by decide +kernel

theorem scoreOps_sub : (scoreOps : List (HloOp τ sig (Elt F))).Forall fun op => op.bufs ⊆ tcRefs τ sig :=
  ⟨nullary_bufs_sub .., nullary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩
theorem scoreOps_keeps (V : Valuation τ sig (Elt F)) (r : Ref sig .tc) (h : r ∉ scoreOps_W) : after scoreOps V (Proc.devRef .tc r) = V (Proc.devRef .tc r) :=
  after_of_writes_sub scoreOps V (forall_writes_sub_of_map (W := scoreOps_W) rfl) h

theorem noisyOps_sub : (noisyOps : List (HloOp τ sig (Elt F))).Forall fun op => op.bufs ⊆ tcRefs τ sig :=
  ⟨nullary_bufs_sub .., binary_bufs_sub .., unary_bufs_sub .., binary_bufs_sub .., unary_bufs_sub .., nullary_bufs_sub .., binary_bufs_sub .., unary_bufs_sub .., unary_bufs_sub .., binary_bufs_sub .., binary_bufs_sub ..⟩
theorem noisyOps_keeps (V : Valuation τ sig (Elt F)) (r : Ref sig .tc) (h : r ∉ noisyOps_W) : after noisyOps V (Proc.devRef .tc r) = V (Proc.devRef .tc r) :=
  after_of_writes_sub noisyOps V (forall_writes_sub_of_map (W := noisyOps_W) rfl) h

theorem nodeOps_sub : (nodeOps : List (HloOp τ sig (Elt F))).Forall fun op => op.bufs ⊆ tcRefs τ sig :=
  ⟨nullary_bufs_sub .., nullary_bufs_sub .., nullary_bufs_sub .., quaternary_bufs_sub .., quaternary_bufs_sub ..⟩
theorem nodeOps_keeps (V : Valuation τ sig (Elt F)) (r : Ref sig .tc) (h : r ∉ nodeOps_W) : after nodeOps V (Proc.devRef .tc r) = V (Proc.devRef .tc r) :=
  after_of_writes_sub nodeOps V (forall_writes_sub_of_map (W := nodeOps_W) rfl) h

theorem startOps_sub : (startOps : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub ..⟩
theorem startOps_keeps (V : Valuation τ sig (Elt F)) (r : Ref sig .tc) (h : r ∉ startOps_W) : after startOps V (Proc.devRef .tc r) = V (Proc.devRef .tc r) :=
  after_of_writes_sub startOps V (forall_writes_sub_of_map (W := startOps_W) rfl) h

theorem rowOps_sub : (rowOps : List (HloOp τ sig (Elt F))).Forall fun op => op.bufs ⊆ tcRefs τ sig :=
  ⟨unaryIndexed_bufs_sub .., reshape_bufs_sub ..⟩
theorem rowOps_keeps (V : Valuation τ sig (Elt F)) (r : Ref sig .tc) (h : r ∉ rowOps_W) : after rowOps V (Proc.devRef .tc r) = V (Proc.devRef .tc r) :=
  after_of_writes_sub rowOps V (forall_writes_sub_of_map (W := rowOps_W) rfl) h

theorem logitOps_sub : (logitOps : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., nullary_bufs_sub .., unary_bufs_sub .., binary_bufs_sub .., ternary_bufs_sub ..⟩
theorem logitOps_keeps (V : Valuation τ sig (Elt F)) (r : Ref sig .tc) (h : r ∉ logitOps_W) : after logitOps V (Proc.devRef .tc r) = V (Proc.devRef .tc r) :=
  after_of_writes_sub logitOps V (forall_writes_sub_of_map (W := logitOps_W) rfl) h

theorem logprobOps_sub : (logprobOps : List (HloOp τ sig (Elt F))).Forall fun op => op.bufs ⊆ tcRefs τ sig :=
  ⟨nullary_bufs_sub .., binary_bufs_sub .., unary_bufs_sub .., binary_bufs_sub .., unary_bufs_sub .., nullary_bufs_sub .., binary_bufs_sub .., unary_bufs_sub .., unary_bufs_sub .., binary_bufs_sub ..⟩
theorem logprobOps_keeps (V : Valuation τ sig (Elt F)) (r : Ref sig .tc) (h : r ∉ logprobOps_W) : after logprobOps V (Proc.devRef .tc r) = V (Proc.devRef .tc r) :=
  after_of_writes_sub logprobOps V (forall_writes_sub_of_map (W := logprobOps_W) rfl) h

theorem xferOps_sub : (xferOps : List (HloOp τ sig (Elt F))).Forall fun op => op.bufs ⊆ tcRefs τ sig :=
  ⟨binary_bufs_sub .., nullary_bufs_sub .., nullary_bufs_sub .., nullary_bufs_sub .., quaternary_bufs_sub .., quaternary_bufs_sub ..⟩
theorem xferOps_keeps (V : Valuation τ sig (Elt F)) (r : Ref sig .tc) (h : r ∉ xferOps_W) : after xferOps V (Proc.devRef .tc r) = V (Proc.devRef .tc r) :=
  after_of_writes_sub xferOps V (forall_writes_sub_of_map (W := xferOps_W) rfl) h

theorem placeOps_sub : (placeOps : List (HloOp τ sig (Elt F))).Forall fun op => op.bufs ⊆ tcRefs τ sig :=
  ⟨nullary_bufs_sub .., binary_bufs_sub .., nullary_bufs_sub .., binary_bufs_sub .., ternary_bufs_sub ..⟩
theorem placeOps_keeps (V : Valuation τ sig (Elt F)) (r : Ref sig .tc) (h : r ∉ placeOps_W) : after placeOps V (Proc.devRef .tc r) = V (Proc.devRef .tc r) :=
  after_of_writes_sub placeOps V (forall_writes_sub_of_map (W := placeOps_W) rfl) h

theorem lastOps_sub : (lastOps : List (HloOp τ sig (Elt F))).Forall fun op => op.bufs ⊆ tcRefs τ sig :=
  ⟨unaryIndexed_bufs_sub .., reshape_bufs_sub ..⟩
theorem lastOps_keeps (V : Valuation τ sig (Elt F)) (r : Ref sig .tc) (h : r ∉ lastOps_W) : after lastOps V (Proc.devRef .tc r) = V (Proc.devRef .tc r) :=
  after_of_writes_sub lastOps V (forall_writes_sub_of_map (W := lastOps_W) rfl) h

theorem allOps_sub : (allOps : List (HloOp τ sig (Elt F))).Forall fun op => op.bufs ⊆ tcRefs τ sig := by
  rw [List.forall_iff_forall_mem]
  intro op h
  unfold allOps at h
  simp only [List.mem_append] at h
  rcases h with h | h | h | h | h | h | h | h | h | h
  · exact List.forall_iff_forall_mem.mp scoreOps_sub op h
  · exact List.forall_iff_forall_mem.mp noisyOps_sub op h
  · exact List.forall_iff_forall_mem.mp nodeOps_sub op h
  · exact List.forall_iff_forall_mem.mp startOps_sub op h
  · exact List.forall_iff_forall_mem.mp rowOps_sub op h
  · exact List.forall_iff_forall_mem.mp logitOps_sub op h
  · exact List.forall_iff_forall_mem.mp logprobOps_sub op h
  · exact List.forall_iff_forall_mem.mp xferOps_sub op h
  · exact List.forall_iff_forall_mem.mp placeOps_sub op h
  · exact List.forall_iff_forall_mem.mp lastOps_sub op h

/-- After 1 of the ten stretches. -/
def R1 (m : (ℓ : Loc nD τ sig) → Buf (Elt Ideal) ℓ) (c : Dev nD) : Valuation τ sig (Elt Ideal) := after scoreOps (launchContents m c)
/-- After 2 of the ten stretches. -/
def R2 (m : (ℓ : Loc nD τ sig) → Buf (Elt Ideal) ℓ) (c : Dev nD) : Valuation τ sig (Elt Ideal) := after noisyOps (R1 m c)
/-- After 3 of the ten stretches. -/
def R3 (m : (ℓ : Loc nD τ sig) → Buf (Elt Ideal) ℓ) (c : Dev nD) : Valuation τ sig (Elt Ideal) := after nodeOps (R2 m c)
/-- After 4 of the ten stretches. -/
def R4 (m : (ℓ : Loc nD τ sig) → Buf (Elt Ideal) ℓ) (c : Dev nD) : Valuation τ sig (Elt Ideal) := after startOps (R3 m c)
/-- After 5 of the ten stretches. -/
def R5 (m : (ℓ : Loc nD τ sig) → Buf (Elt Ideal) ℓ) (c : Dev nD) : Valuation τ sig (Elt Ideal) := after rowOps (R4 m c)
/-- After 6 of the ten stretches. -/
def R6 (m : (ℓ : Loc nD τ sig) → Buf (Elt Ideal) ℓ) (c : Dev nD) : Valuation τ sig (Elt Ideal) := after logitOps (R5 m c)
/-- After 7 of the ten stretches. -/
def R7 (m : (ℓ : Loc nD τ sig) → Buf (Elt Ideal) ℓ) (c : Dev nD) : Valuation τ sig (Elt Ideal) := after logprobOps (R6 m c)
/-- After 8 of the ten stretches. -/
def R8 (m : (ℓ : Loc nD τ sig) → Buf (Elt Ideal) ℓ) (c : Dev nD) : Valuation τ sig (Elt Ideal) := after xferOps (R7 m c)
/-- After 9 of the ten stretches. -/
def R9 (m : (ℓ : Loc nD τ sig) → Buf (Elt Ideal) ℓ) (c : Dev nD) : Valuation τ sig (Elt Ideal) := after placeOps (R8 m c)
/-- After 10 of the ten stretches. -/
def R10 (m : (ℓ : Loc nD τ sig) → Buf (Elt Ideal) ℓ) (c : Dev nD) : Valuation τ sig (Elt Ideal) := after lastOps (R9 m c)

theorem after_append (a b : List (HloOp τ sig (Elt Ideal))) (V : Valuation τ sig (Elt Ideal)) : after (a ++ b) V = after b (after a V) := by
  induction a generalizing V with
  | nil => rfl
  | cons op a ih => exact ih _

theorem ops_after (m : (ℓ : Loc nD τ sig) → Buf (Elt Ideal) ℓ) (c : Dev nD) : after allOps (launchContents m c) = R10 m c := by
  unfold allOps
  simp only [after_append]
  rfl

theorem R1_keeps (m : (ℓ : Loc nD τ sig) → Buf (Elt Ideal) ℓ) (c : Dev nD) (r : Ref sig .tc) (h : r ∉ scoreOps_W) :
    R1 m c (Proc.devRef .tc r) = (launchContents m c) (Proc.devRef .tc r) := scoreOps_keeps _ r h
theorem R2_keeps (m : (ℓ : Loc nD τ sig) → Buf (Elt Ideal) ℓ) (c : Dev nD) (r : Ref sig .tc) (h : r ∉ noisyOps_W) :
    R2 m c (Proc.devRef .tc r) = (R1 m c) (Proc.devRef .tc r) := noisyOps_keeps _ r h
theorem R3_keeps (m : (ℓ : Loc nD τ sig) → Buf (Elt Ideal) ℓ) (c : Dev nD) (r : Ref sig .tc) (h : r ∉ nodeOps_W) :
    R3 m c (Proc.devRef .tc r) = (R2 m c) (Proc.devRef .tc r) := nodeOps_keeps _ r h
theorem R4_keeps (m : (ℓ : Loc nD τ sig) → Buf (Elt Ideal) ℓ) (c : Dev nD) (r : Ref sig .tc) (h : r ∉ startOps_W) :
    R4 m c (Proc.devRef .tc r) = (R3 m c) (Proc.devRef .tc r) := startOps_keeps _ r h
theorem R5_keeps (m : (ℓ : Loc nD τ sig) → Buf (Elt Ideal) ℓ) (c : Dev nD) (r : Ref sig .tc) (h : r ∉ rowOps_W) :
    R5 m c (Proc.devRef .tc r) = (R4 m c) (Proc.devRef .tc r) := rowOps_keeps _ r h
theorem R6_keeps (m : (ℓ : Loc nD τ sig) → Buf (Elt Ideal) ℓ) (c : Dev nD) (r : Ref sig .tc) (h : r ∉ logitOps_W) :
    R6 m c (Proc.devRef .tc r) = (R5 m c) (Proc.devRef .tc r) := logitOps_keeps _ r h
theorem R7_keeps (m : (ℓ : Loc nD τ sig) → Buf (Elt Ideal) ℓ) (c : Dev nD) (r : Ref sig .tc) (h : r ∉ logprobOps_W) :
    R7 m c (Proc.devRef .tc r) = (R6 m c) (Proc.devRef .tc r) := logprobOps_keeps _ r h
theorem R8_keeps (m : (ℓ : Loc nD τ sig) → Buf (Elt Ideal) ℓ) (c : Dev nD) (r : Ref sig .tc) (h : r ∉ xferOps_W) :
    R8 m c (Proc.devRef .tc r) = (R7 m c) (Proc.devRef .tc r) := xferOps_keeps _ r h
theorem R9_keeps (m : (ℓ : Loc nD τ sig) → Buf (Elt Ideal) ℓ) (c : Dev nD) (r : Ref sig .tc) (h : r ∉ placeOps_W) :
    R9 m c (Proc.devRef .tc r) = (R8 m c) (Proc.devRef .tc r) := placeOps_keeps _ r h
theorem R10_keeps (m : (ℓ : Loc nD τ sig) → Buf (Elt Ideal) ℓ) (c : Dev nD) (r : Ref sig .tc) (h : r ∉ lastOps_W) :
    R10 m c (Proc.devRef .tc r) = (R9 m c) (Proc.devRef .tc r) := lastOps_keeps _ r h

/-- Every execution ends, each buffer at the tenth valuation and every counter at zero. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = R10 m c (Proc.devRef .tc b)) ∧ r.2.sem = fun _ => 0 :=
  (θ_run defs _ _).mono (fun r h => ⟨fun c b => (h c b).trans (by rw [ops_after]), sem_eq_zero_of_no_sems rfl r.2⟩)
    (run_seq scopedRefs_eq scopedSems_eq defs main (fun _ => allOps) main_eq (fun _ => allOps_sub) m ρ)

end Cert.Proof.Ref

end
-- ==== Proof.Argmax.lean ====
/-
  The reference's arg-max at the ideal instance: its reduction over a vector's entries in order leaves the first position
  of the greatest value.
-/
module

public import proofs.«01_k».proof.Proof.Reductions
public import proofs.«01_k».proof.Proof.Gen.ReferenceIdeal
public import Idealize.ShloMosaic.Lib.ValueLayout

@[expose] public section

namespace Cert.Proof

open Idealize.ShloMosaic
open scoped BigOperators

/-- One step of the reduction keeps the first position of the greatest value so far. -/
theorem reducer_step (s : ℕ → EReal) (k : ℕ) (hk : k + 1 < 2147483647) {j : ℕ} (hj : FirstMax (k + 1) s j) :
    ∃ j', FirstMax (k + 1 + 1) s j'
      ∧ Cert.ReferenceIdeal.reducer_argmax_f32_i32 (F := Ideal) (s j, BitVec.ofNat 32 j) (s (k + 1), BitVec.ofNat 32 (k + 1))
        = (s j', BitVec.ofNat 32 j') := by
  have hint : ∀ k : ℕ, k < 2147483647 → (BitVec.ofNat 32 k).toInt = (k : ℤ) := fun k hk => by
    rw [BitVec.toInt_ofNat']; norm_num; rw [Int.bmod_def]; split_ifs <;> omega
  have hjk := hj.1
  have hslt : (BitVec.ofNat 32 j).slt (BitVec.ofNat 32 (k + 1)) = true := by
    rw [BitVec.slt_iff_toInt_lt, hint j (by omega), hint (k + 1) hk]; omega
  have e2 : FloatOps.cmpf (F := Ideal) (φ := .f32) .ogt (s j) (s (k + 1)) = BitVec.ofBool (decide (s (k + 1) < s j)) := rfl
  have e3 : FloatOps.cmpf (F := Ideal) (φ := .f32) .une (s j) (s j) = BitVec.ofBool (decide (s j ≠ s j)) := rfl
  have e5 : FloatOps.cmpf (F := Ideal) (φ := .f32) .oeq (s j) (s (k + 1)) = BitVec.ofBool (decide (s j = s (k + 1))) := rfl
  have e6 : IntOp.cmpi .slt (BitVec.ofNat 32 j) (BitVec.ofNat 32 (k + 1)) = 1#1 := by
    show BitVec.ofBool ((BitVec.ofNat 32 j).slt (BitVec.ofNat 32 (k + 1))) = 1#1
    rw [hslt]; rfl
  have hq : FirstMax 1 (fun i => s (k + 1 + i)) 0 :=
    ⟨by omega, fun i hi => by have : i = 0 := by omega
                              subst this; exact le_rfl, fun i hi => absurd hi (Nat.not_lt_zero i)⟩
  by_cases hlt : s j < s (k + 1)
  · refine ⟨k + 1, FirstMax.take (b := s j) hj.2.1 hq hlt, ?_⟩
    unfold Cert.ReferenceIdeal.reducer_argmax_f32_i32
    simp only [e2, e3, e5, e6, decide_eq_false (not_lt.2 hlt.le), decide_eq_false hlt.ne, ne_eq, not_true_eq_false, decide_false]
    rfl
  · refine ⟨j, hj.keep hq hlt, ?_⟩
    unfold Cert.ReferenceIdeal.reducer_argmax_f32_i32
    rcases (not_lt.1 hlt).lt_or_eq with hgt | heq
    · simp only [e2, e3, e5, e6, decide_eq_true hgt, decide_eq_false hgt.ne', ne_eq, not_true_eq_false, decide_false]
      rfl
    · have hn : ¬ s (k + 1) < s j := by rw [heq]; exact lt_irrefl _
      simp only [e2, e3, e5, e6, decide_eq_false hn, decide_eq_true heq.symm, ne_eq, not_true_eq_false, decide_false]
      exact Prod.ext heq rfl

/-- The whole reduction over `n` pairs. -/
theorem reducer_fold (s : ℕ → EReal) (n : ℕ) (hn : n < 2147483647) (h0 : 0 < n) :
    ∃ j, FirstMax n s j ∧ ((List.range n).map fun k => (s k, BitVec.ofNat 32 k)).foldl
      (Cert.ReferenceIdeal.reducer_argmax_f32_i32 (F := Ideal)) ((⊥ : EReal), 0#32) = (s j, BitVec.ofNat 32 j) := by
  induction n with
  | zero => omega
  | succ n ih =>
    rw [List.range_succ, List.map_append, List.foldl_append]
    by_cases hz : n = 0
    · subst hz
      refine ⟨0, ⟨by omega, fun i hi => by have : i = 0 := by omega
                                           subst this; exact le_rfl, fun i hi => absurd hi (Nat.not_lt_zero i)⟩, ?_⟩
      show Cert.ReferenceIdeal.reducer_argmax_f32_i32 (F := Ideal) ((⊥ : EReal), 0#32) (s 0, BitVec.ofNat 32 0) = _
      have e2 : FloatOps.cmpf (F := Ideal) (φ := .f32) .ogt (⊥ : EReal) (s 0) = BitVec.ofBool (decide (s 0 < ⊥)) := rfl
      have e3 : FloatOps.cmpf (F := Ideal) (φ := .f32) .une (⊥ : EReal) (⊥ : EReal) = BitVec.ofBool (decide ((⊥ : EReal) ≠ ⊥)) := rfl
      have e5 : FloatOps.cmpf (F := Ideal) (φ := .f32) .oeq (⊥ : EReal) (s 0) = BitVec.ofBool (decide (⊥ = s 0)) := rfl
      unfold Cert.ReferenceIdeal.reducer_argmax_f32_i32
      simp only [e2, e3, e5, not_lt_bot, ne_eq, not_true_eq_false, decide_false]
      by_cases hb : ⊥ = s 0
      · simp only [decide_eq_true hb]; rfl
      · simp only [decide_eq_false hb]; rfl
    · obtain ⟨m, rfl⟩ : ∃ m, n = m + 1 := ⟨n - 1, by omega⟩
      obtain ⟨j, hj, he⟩ := ih (by omega) (by omega)
      rw [he]
      exact reducer_step s m (by omega) hj

/-- A list over the positions below `n`, from one over their values. -/
theorem map_finRange {α : Type*} (N n : ℕ) (h : N = n) (G : Fin N → α) (g : ℕ → α) (hg : ∀ i : Fin N, G i = g i.val) :
    (List.finRange N).map G = (List.range n).map g := by
  subst h
  rw [← List.map_coe_finRange_eq_range, List.map_map]
  exact List.map_congr_left fun i _ => hg i

/-- The reference's arg-max of a vector whose entries are `X 0 … X (n - 1)`. -/
theorem argReduce_first {n : ℕ} (hn : n < 2147483647) (h0 : 0 < n) {t u : Shape} {axes : List (Fin (⟨1, ![n]⟩ : Shape).rank)}
    (x : FVec Ideal ⟨1, ![n]⟩ .f32) (y : IVec ⟨1, ![n]⟩ 32) (ix : FVec Ideal u .f32) (iy : IVec u 32)
    (h : (⟨1, ![n]⟩ : Shape).ReducesTo axes t) (ht : ∀ b, t.size b = 1) (hu : 0 < u.numel) (j : t.Idx)
    (X : ℕ → EReal) (hx : ∀ q : Fin n, x (ValueIdx.ix1 q) = X q) (hy : ∀ q : Fin n, y (ValueIdx.ix1 q) = BitVec.ofNat 32 q.val)
    (hix : ∀ a, ix a = (⊥ : EReal)) (hiy : ∀ a, iy a = 0#32) :
    ∃ q, FirstMax n X q ∧ (Host.argReduce (Cert.ReferenceIdeal.reducer_argmax_f32_i32 (F := Ideal)) x y ix iy h hu j).2 = BitVec.ofNat 32 q := by
  obtain ⟨q, hq, he⟩ := reducer_fold X n hn h0
  refine ⟨q, hq, ?_⟩
  rw [Host.argReduce_eq_reduce2_of_une_irrefl (fun v => by
    show BitVec.ofBool (decide (v ≠ v)) ≠ 1#1
    simp), Host.reduce2_eq_foldl_fiber, hix, hiy]
  have hall : Host.argReduceFiber x y h j = (List.range n).map fun k => (X k, BitVec.ofNat 32 k) := by
    unfold Host.argReduceFiber
    rw [List.filter_eq_self.2 fun a _ => decide_eq_true (funext fun b => Fin.ext (by
      have := (h.drop ((⟨1, ![n]⟩ : Shape).rowMajor.symm a) b).isLt; have := (j b).isLt; have := ht b; omega))]
    have hnum : (⟨1, ![n]⟩ : Shape).numel = n := by simp [Shape.numel]
    refine map_finRange _ n hnum _ _ fun i => ?_
    have hi : (⟨1, ![n]⟩ : Shape).rowMajor.symm i = ValueIdx.ix1 ⟨i.val, i.isLt.trans_eq hnum⟩ := by
      rw [Equiv.symm_apply_eq]; apply Fin.ext; rw [Shape.rowMajor_val_one]; rfl
    rw [hi, hx, hy]
  rw [hall, he]

end Cert.Proof
-- ==== Proof.RefValue.lean ====
/-
  The reference's three results, as the mathematics of the arguments.
-/
module

public import proofs.«01_k».proof.Proof.RefRun
public import proofs.«01_k».proof.Proof.Scores
public import proofs.«01_k».proof.Proof.Argmax
public import proofs.«01_k».proof.Proof.Tables
public import proofs.«01_k».proof.Proof.Facts
public import Idealize.ShloMosaic.Lib.DynamicIndex
public import Idealize.ShloMosaic.Lib.StackMember
public import Idealize.ShloMosaic.Lib.IdealHost
public import Idealize.ShloMosaic.Lib.StableHlo.RunClose

@[expose] public section

set_option maxRecDepth 65536
set_option backward.isDefEq.respectTransparency.types false

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

/-! ## The stretches' terms -/

/-- The critic's scores as printed. -/
def scoresR (x : FVec Ideal S10000x128 .f32) (w1 : FVec Ideal S128x256 .f32) (b1 : FVec Ideal S256 .f32) (w2 : FVec Ideal S256x1 .f32)
    (b2 : FVec Ideal S1 .f32) : FVec Ideal S10000 .f32 :=
  shapeCast S10000 (addf (φ := .f32) (Host.dotGeneral dot_S10000x256_S256x1_S10000x1_1_0_0_1_n_n none
    (maximumf (φ := .f32) (addf (φ := .f32) (Host.dotGeneral dot_S10000x128_S128x256_S10000x256_1_0_0_1_n_n none x w1)
      (broadcastInDim S10000x256 ![0, 1] bcast_S1x256_S10000x256_0_1 (broadcastInDim S1x256 ![1] bcast_S256_S1x256_1 b1)))
      (broadcastInDim S10000x256 ![] bcast_S_S10000x256 (constant (F := Ideal) S_ .f32 0x00000000#32))) w2)
    (broadcastInDim S10000x1 ![0, 1] bcast_S1x1_S10000x1_0_1 (broadcastInDim S1x1 ![1] bcast_S1_S1x1_1 b2))) shapeCasts_S10000x1_S10000

/-- Log-probabilities of a vector of logits as printed. -/
def logProbsR {n : ℕ} (hr : (⟨1, ![n]⟩ : Shape).ReducesTo [0] S_) (hb : S_.BroadcastsInDim ⟨1, ![n]⟩ ![]) (X : FVec Ideal ⟨1, ![n]⟩ .f32) :
    FVec Ideal ⟨1, ![n]⟩ .f32 :=
  subf (φ := .f32) (subf (φ := .f32) X (broadcastInDim ⟨1, ![n]⟩ ![] hb (Host.reduce FloatOps.maximumf X (constant (F := Ideal) S_ .f32 0xFF800000#32) hr h_S_)))
    (broadcastInDim ⟨1, ![n]⟩ ![] hb (Host.log (φ := .f32) (Host.reduceAdd (φ := .f32)
      (Host.exp (φ := .f32) (subf (φ := .f32) X (broadcastInDim ⟨1, ![n]⟩ ![] hb (Host.reduce FloatOps.maximumf X (constant (F := Ideal) S_ .f32 0xFF800000#32) hr h_S_))))
      (constant (F := Ideal) S_ .f32 0x00000000#32) hr h_S_)))

variable (V : Valuation τ sig (Elt Ideal))

theorem v10_eq : after scoreOps V (Proc.devRef .tc main_v10)
    = scoresR (V (Proc.devRef .tc main_arg0)) (V (Proc.devRef .tc main_arg6)) (V (Proc.devRef .tc main_arg7)) (V (Proc.devRef .tc main_arg8)) (V (Proc.devRef .tc main_arg9)) := by
  after_results
  rfl
theorem cst_eq : after scoreOps V (Proc.devRef .tc main_cst) = fun i => FloatOps.ofBits (F := Ideal) .f32 (lit0 (S10000.rowMajor i)) := by
  after_results
  rfl
theorem cst_0_eq : after scoreOps V (Proc.devRef .tc main_cst_0) = fun i => FloatOps.ofBits (F := Ideal) .f32 (lit1 (S100000.rowMajor i)) := by
  after_results
  rfl
theorem v19_eq : after noisyOps V (Proc.devRef .tc main_v19)
    = addf (F := Ideal) (φ := .f32) (logProbsR reducesTo_S10000_S_d0 bcast_S_S10000 (V (Proc.devRef .tc main_v10))) (V (Proc.devRef .tc main_cst)) := by
  after_results
  rfl
theorem v20_eq : after nodeOps V (Proc.devRef .tc main_v20)
    = fun j => (Host.argReduce reducer_argmax_f32_i32 (V (Proc.devRef .tc main_v19)) (iotaInDim S10000 32 0) (constant (F := Ideal) S_ .f32 0xFF800000#32)
        (constantI S_ 32 0#32) reducesTo_S10000_S_d0 h_S_ j).2 := by
  after_results
  rfl
theorem v23_eq : after startOps V (Proc.devRef .tc main_v23)
    = select (cmpi .slt (V (Proc.devRef .tc main_v20)) (constantI S_ 32 0#32)) (addi (V (Proc.devRef .tc main_v20)) (constantI S_ 32 10000#32)) (V (Proc.devRef .tc main_v20)) := by
  after_results
  try rfl
theorem v26_eq : after startOps V (Proc.devRef .tc main_v26) = constantI S_ 32 0#32 := by
  after_results
  rfl
theorem v28_eq : after rowOps V (Proc.devRef .tc main_v28)
    = shapeCast S128 (Host.dynamicSlice S1x128 (V (Proc.devRef .tc main_arg0))
        (fun k => ((![V (Proc.devRef .tc main_v23), V (Proc.devRef .tc main_v26)] : Fin 2 → IVec S_ 32) k (Shape.Idx.first h_S_)).toInt)
        sliceFits_S10000x128_S1x128) shapeCasts_S1x128_S128 := by
  after_results
  refine congrArg (fun z => shapeCast S128 (Host.dynamicSlice S1x128 (V (Proc.devRef .tc main_arg0)) z sliceFits_S10000x128_S1x128) shapeCasts_S1x128_S128) (funext fun k => ?_)
  match k with
  | ⟨0, _⟩ => rfl
  | ⟨1, _⟩ => rfl

/-- The logits before masking, as printed. -/
def plainR (r : FVec Ideal S128 .f32) (w1 : FVec Ideal S128x256 .f32) (b1 : FVec Ideal S256 .f32) (w2 : FVec Ideal S256x100000 .f32)
    (b2 : FVec Ideal S100000 .f32) : FVec Ideal S100000 .f32 :=
  addf (φ := .f32) (Host.dotGeneral dot_S256_S256x100000_S100000_0_0_n_1_n_n none
    (maximumf (φ := .f32) (addf (φ := .f32) (Host.dotGeneral dot_S128_S128x256_S256_0_0_n_1_n_n none r w1) b1)
      (broadcastInDim S256 ![] bcast_S_S256 (constant (F := Ideal) S_ .f32 0x00000000#32))) w2) b2

theorem v37_eq : after logitOps V (Proc.devRef .tc main_v37)
    = (fun L : FVec Ideal S100000 .f32 => select (V (Proc.devRef .tc main_arg1)) L (subf (F := Ideal) (φ := .f32) L (broadcastInDim S100000 ![] bcast_S_S100000 (constant (F := Ideal) S_ .f32 0x501502F9#32))))
      (plainR (V (Proc.devRef .tc main_v28)) (V (Proc.devRef .tc main_arg2)) (V (Proc.devRef .tc main_arg3)) (V (Proc.devRef .tc main_arg4)) (V (Proc.devRef .tc main_arg5))) := by
  after_results
  rfl
theorem v45_eq : after logprobOps V (Proc.devRef .tc main_v45) = logProbsR reducesTo_S100000_S_d0 bcast_S_S100000 (V (Proc.devRef .tc main_v37)) := by
  after_results
  rfl
theorem v47_eq : after xferOps V (Proc.devRef .tc main_v47)
    = fun j => (Host.argReduce reducer_argmax_f32_i32 (addf (F := Ideal) (φ := .f32) (V (Proc.devRef .tc main_v45)) (V (Proc.devRef .tc main_cst_0))) (iotaInDim S100000 32 0)
        (constant (F := Ideal) S_ .f32 0xFF800000#32) (constantI S_ 32 0#32) reducesTo_S100000_S_d0 h_S_ j).2 := by
  after_results
  rfl
theorem v50_eq : after placeOps V (Proc.devRef .tc main_v50)
    = select (cmpi .slt (V (Proc.devRef .tc main_v47)) (constantI S_ 32 0#32)) (addi (V (Proc.devRef .tc main_v47)) (constantI S_ 32 100000#32)) (V (Proc.devRef .tc main_v47)) := by
  after_results
  try rfl
theorem v52_eq : after lastOps V (Proc.devRef .tc main_v52)
    = shapeCast S_ (Host.dynamicSlice S1 (V (Proc.devRef .tc main_v45))
        (fun k => ((![V (Proc.devRef .tc main_v50)] : Fin 1 → IVec S_ 32) k (Shape.Idx.first h_S_)).toInt)
        sliceFits_S100000_S1) shapeCasts_S1_S_ := by
  after_results
  refine congrArg (fun z => shapeCast S_ (Host.dynamicSlice S1 (V (Proc.devRef .tc main_v45)) z sliceFits_S100000_S1) shapeCasts_S1_S_) (funext fun k => ?_)
  match k with
  | ⟨0, _⟩ => rfl

end Cert.Proof.Ref

end
-- ==== Proof.RefFinal.lean ====
/-
  The reference's terms entry by entry, and its three results as the mathematics of the arguments.
-/
module

public import proofs.«01_k».proof.Proof.RefValue

@[expose] public section

set_option maxRecDepth 65536
set_option backward.isDefEq.respectTransparency.types false

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx

/-! ## The terms at an entry -/

theorem scoresR_at (x : FVec Ideal S10000x128 .f32) (w1 : FVec Ideal S128x256 .f32) (b1 : FVec Ideal S256 .f32) (w2 : FVec Ideal S256x1 .f32)
    (b2 : FVec Ideal S1 .f32) (q : Fin 10000) :
    scoresR x w1 b1 w2 b2 (ix1 q) = scoreC x w1 (fun k => b1 (ix1 k)) w2 (b2 (ix1 (0 : Fin 1))) q := by
  unfold scoresR
  rw [shapeCast_apply _ shapeCasts_S10000x1_S10000 (ix1 q) (ix2 q (0 : Fin 1)) (by
    rw [Shape.rowMajor_val_one, Shape.rowMajor_val_two]; show q.val * 1 + 0 = q.val; omega)]
  unfold scoreC
  show (Host.dotGeneral (DotDims.plain 10000 256 1) none _ w2 (ix2 q (0 : Fin 1)) : EReal) + _ = _
  rw [StackMember.dotGeneral_plain_apply]
  congr 1
  · refine Finset.sum_congr rfl fun k _ => ?_
    congr 1
    unfold unit
    show max ((Host.dotGeneral (DotDims.plain 10000 128 256) none x w1 (ix2 q k) : EReal) + _) (FloatOps.ofBits (F := Ideal) .f32 0x00000000#32 : EReal) = _
    rw [StackMember.dotGeneral_plain_apply, zero_f32]
    congr 2
    refine congrArg b1 (funext fun a => Fin.ext ?_)
    match a with
    | ⟨0, _⟩ => rfl
  · refine congrArg b2 (funext fun a => Fin.ext ?_)
    match a with
    | ⟨0, _⟩ => rfl

/-- A host reduction by maximum from −∞ of a whole vector. -/
theorem whole_max {n : ℕ} (hr : (⟨1, ![n]⟩ : Shape).ReducesTo [0] S_) (X : FVec Ideal ⟨1, ![n]⟩ .f32) (x : ℕ → EReal) (h : ∀ q : Fin n, X (ix1 q) = x q) (j : S_.Idx) :
    Host.reduce FloatOps.maximumf X (constant (F := Ideal) S_ .f32 0xFF800000#32) hr h_S_ j = (Finset.range n).sup x := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold, Finset.filter_true_of_mem fun i _ => funext fun b => b.elim0]
  rw [← sup_line (vec_line n) h]
  show Finset.fold _ (FloatOps.ofBits (F := Ideal) .f32 0xFF800000#32) X Finset.univ = _
  rw [neg_inf_f32]
  rfl

theorem logProbsR_at {n : ℕ} (hr : (⟨1, ![n]⟩ : Shape).ReducesTo [0] S_) (hb : S_.BroadcastsInDim ⟨1, ![n]⟩ ![]) (X : FVec Ideal ⟨1, ![n]⟩ .f32)
    (x : ℕ → EReal) (h : ∀ q : Fin n, X (ix1 q) = x q) (q : Fin n) : logProbsR hr hb X (ix1 q) = logSoft n x q := by
  have hm : ∀ i, broadcastInDim (s := S_) ⟨1, ![n]⟩ ![] hb (Host.reduce FloatOps.maximumf X (constant (F := Ideal) S_ .f32 0xFF800000#32) hr h_S_) i = (Finset.range n).sup x := fun i => by
    rw [broadcastInDim_scalar_apply, whole_max hr X x h]
  unfold logProbsR logSoft
  show ((X (ix1 q) : EReal) - broadcastInDim (s := S_) ⟨1, ![n]⟩ ![] hb (Host.reduce FloatOps.maximumf X (constant (F := Ideal) S_ .f32 0xFF800000#32) hr h_S_) (ix1 q))
    - broadcastInDim (s := S_) ⟨1, ![n]⟩ ![] hb (Host.log (F := Ideal) (φ := .f32) _) (ix1 q) = _
  rw [hm, h, broadcastInDim_scalar_apply]
  congr 1
  show Ideal.log (Host.reduceAdd (F := Ideal) (φ := .f32) _ _ hr h_S_ ix0) = _
  rw [hostReduceAdd_apply, Ideal.hostReduceAdd_total hr (fun b => b.elim0)]
  show Ideal.log ((FloatOps.ofBits (F := Ideal) .f32 0x00000000#32 : EReal) + _) = _
  rw [zero_f32, zero_add]
  congr 1
  unfold expSum
  refine sum_line (vec_line n) (x := fun j => Ideal.exp (x j - (Finset.range n).sup x)) fun p => ?_
  show Ideal.exp ((X (ix1 p) : EReal) - broadcastInDim (s := S_) ⟨1, ![n]⟩ ![] hb (Host.reduce FloatOps.maximumf X (constant (F := Ideal) S_ .f32 0xFF800000#32) hr h_S_) (ix1 p)) = _
  rw [hm, h]

/-- A row against a matrix. -/
theorem rowdot1 (r : FVec Ideal S128 .f32) (w : FVec Ideal S128x256 .f32) (k : Fin 256) :
    Host.dotGeneral dot_S128_S128x256_S256_0_0_n_1_n_n none r w (ix1 k) = ∑ d : Fin 128, (r (ix1 d) * w (ix2 d k) : EReal) := by
  show FloatOps.dotGeneral _ none _ r w (ix1 k) = _
  rw [Ideal.dotGeneral_apply, ← Equiv.sum_comp (contrEquiv1 dot_S128_S128x256_S256_0_0_n_1_n_n 128 rfl rfl).symm]
  refine Finset.sum_congr rfl fun d _ => ?_
  have c2 := contrEquiv1_symm_val dot_S128_S128x256_S256_0_0_n_1_n_n 128 rfl rfl d
  have l2 : dot_S128_S128x256_S256_0_0_n_1_n_n.lhsIdx (ix1 k) ((contrEquiv1 _ 128 rfl rfl).symm d) = ix1 d := by
    funext ax; apply Fin.ext
    match ax with
    | ⟨0, _⟩ => exact c2
  have r2 : dot_S128_S128x256_S256_0_0_n_1_n_n.rhsIdx (ix1 k) ((contrEquiv1 _ 128 rfl rfl).symm d) = ix2 d k := by
    funext ax; apply Fin.ext
    match ax with
    | ⟨0, _⟩ => exact c2
    | ⟨1, _⟩ => rfl
  rw [l2, r2]

theorem rowdot2 (r : FVec Ideal S256 .f32) (w : FVec Ideal S256x100000 .f32) (k : Fin 100000) :
    Host.dotGeneral dot_S256_S256x100000_S100000_0_0_n_1_n_n none r w (ix1 k) = ∑ d : Fin 256, (r (ix1 d) * w (ix2 d k) : EReal) := by
  show FloatOps.dotGeneral _ none _ r w (ix1 k) = _
  rw [Ideal.dotGeneral_apply, ← Equiv.sum_comp (contrEquiv1 dot_S256_S256x100000_S100000_0_0_n_1_n_n 256 rfl rfl).symm]
  refine Finset.sum_congr rfl fun d _ => ?_
  have c2 := contrEquiv1_symm_val dot_S256_S256x100000_S100000_0_0_n_1_n_n 256 rfl rfl d
  have l2 : dot_S256_S256x100000_S100000_0_0_n_1_n_n.lhsIdx (ix1 k) ((contrEquiv1 _ 256 rfl rfl).symm d) = ix1 d := by
    funext ax; apply Fin.ext
    match ax with
    | ⟨0, _⟩ => exact c2
  have r2 : dot_S256_S256x100000_S100000_0_0_n_1_n_n.rhsIdx (ix1 k) ((contrEquiv1 _ 256 rfl rfl).symm d) = ix2 d k := by
    funext ax; apply Fin.ext
    match ax with
    | ⟨0, _⟩ => exact c2
    | ⟨1, _⟩ => rfl
  rw [l2, r2]

theorem plainR_at (x : FVec Ideal S10000x128 .f32) (n : Fin 10000) (r : FVec Ideal S128 .f32) (hr : ∀ d : Fin 128, r (ix1 d) = x (ix2 n d))
    (w1 : FVec Ideal S128x256 .f32) (b1 : FVec Ideal S256 .f32) (w2 : FVec Ideal S256x100000 .f32) (b2 : FVec Ideal S100000 .f32) (j : Fin 100000) :
    plainR r w1 b1 w2 b2 (ix1 j) = (∑ k : Fin 256, unit x w1 (fun k => b1 (ix1 k)) n k * w2 (ix2 k j)) + b2 (ix1 j) := by
  unfold plainR
  show (Host.dotGeneral dot_S256_S256x100000_S100000_0_0_n_1_n_n none _ w2 (ix1 j) : EReal) + _ = _
  rw [rowdot2]
  congr 1
  refine Finset.sum_congr rfl fun k _ => ?_
  congr 1
  unfold unit
  show max ((Host.dotGeneral dot_S128_S128x256_S256_0_0_n_1_n_n none r w1 (ix1 k) : EReal) + _) (FloatOps.ofBits (F := Ideal) .f32 0x00000000#32 : EReal) = _
  rw [rowdot1, zero_f32]
  congr 2
  exact Finset.sum_congr rfl fun d _ => by rw [hr]

theorem wrap_at (n : ℕ) (hn : n < 2 ^ 31) (v e : IVec S_ 32) (hv : ∀ j, v j = BitVec.ofNat 32 n) (j : S_.Idx) :
    (select (cmpi .slt v (constantI S_ 32 0#32)) (addi v e) v j).toInt = (n : Int) := by
  rw [show v = constantI S_ 32 (BitVec.ofNat 32 n) from funext hv]
  exact toInt_wrap_ofNat n hn

/-- The entry a one-entry slice reads. -/
theorem slice_row (x : FVec Ideal S10000x128 .f32) (n : Fin 10000) (start : Fin 2 → Int) (h0 : start 0 = n.val) (h1 : start 1 = 0) (d : Fin 128) :
    shapeCast S128 (Host.dynamicSlice S1x128 x start sliceFits_S10000x128_S1x128) shapeCasts_S1x128_S128 (ix1 d) = x (ix2 n d) := by
  have hn := n.isLt
  rw [Host.dynamicSlice_eq_extractStridedSlice S1x128 x start ![n.val, 0] sliceFits_S10000x128_S1x128
    ⟨rfl, fun a => by
      match a with
      | ⟨0, _⟩ => show n.val + 1 ≤ 10000; omega
      | ⟨1, _⟩ => show 0 + 128 ≤ 128; omega⟩
    (fun a => by
      match a with
      | ⟨0, _⟩ => exact h0
      | ⟨1, _⟩ => exact h1)]
  rw [shapeCast_apply _ shapeCasts_S1x128_S128 (ix1 d) (ix2 (0 : Fin 1) d) (by
    rw [Shape.rowMajor_val_one, Shape.rowMajor_val_two]; show 0 * 128 + d.val = d.val; omega)]
  refine congrArg x (funext fun a => Fin.ext ?_)
  match a with
  | ⟨0, _⟩ => show n.val + 0 = n.val; omega
  | ⟨1, _⟩ => show 0 + d.val = d.val; omega

theorem slice_entry (x : FVec Ideal S100000 .f32) (n : Fin 100000) (start : Fin 1 → Int) (h0 : start 0 = n.val) (j : S_.Idx) :
    shapeCast S_ (Host.dynamicSlice S1 x start sliceFits_S100000_S1) shapeCasts_S1_S_ j = x (ix1 n) := by
  have hn := n.isLt
  rw [Host.dynamicSlice_eq_extractStridedSlice S1 x start ![n.val] sliceFits_S100000_S1
    ⟨rfl, fun a => by
      match a with
      | ⟨0, _⟩ => show n.val + 1 ≤ 100000; omega⟩
    (fun a => by
      match a with
      | ⟨0, _⟩ => exact h0)]
  refine congrArg x (funext fun a => Fin.ext ?_)
  match a with
  | ⟨0, _⟩ =>
    show n.val + (Shape.reshapeEquiv shapeCasts_S1_S_ j 0).val = n.val
    have := (Shape.reshapeEquiv shapeCasts_S1_S_ j 0).isLt
    have h1 : S1.size 0 = 1 := rfl
    omega

/-! ## The run's values -/

variable (m : (ℓ : Loc nD τ sig) → Buf (Elt Ideal) ℓ) (c : Dev nD)

/-- What core `c` holds at launch in an argument. -/
abbrev arg (r : Ref sig .tc) : r.ty.Contents (Elt Ideal) := m ((c.tc : Thread nD τ).loc r)

/-- The arguments on core `c`. -/
def argsR : Args where
  x := arg m c main_arg0
  mask := arg m c main_arg1
  aw1 := arg m c main_arg2
  ab1 := arg m c main_arg3
  aw2 := arg m c main_arg4
  ab2 := arg m c main_arg5
  cw1 := arg m c main_arg6
  cb1 := arg m c main_arg7
  cw2 := arg m c main_arg8
  cb2 := arg m c main_arg9

theorem R4_arg (r : Ref sig .tc) (h1 : r ∉ scoreOps_W) (h2 : r ∉ noisyOps_W) (h3 : r ∉ nodeOps_W) (h4 : r ∉ startOps_W) :
    R4 m c (Proc.devRef .tc r) = arg m c r :=
  (R4_keeps m c r h4).trans ((R3_keeps m c r h3).trans ((R2_keeps m c r h2).trans ((R1_keeps m c r h1).trans rfl)))

theorem R10_arg (r : Ref sig .tc) (h1 : r ∉ scoreOps_W) (h2 : r ∉ noisyOps_W) (h3 : r ∉ nodeOps_W) (h4 : r ∉ startOps_W) (h5 : r ∉ rowOps_W)
    (h6 : r ∉ logitOps_W) (h7 : r ∉ logprobOps_W) (h8 : r ∉ xferOps_W) (h9 : r ∉ placeOps_W) (h10 : r ∉ lastOps_W) :
    R10 m c (Proc.devRef .tc r) = arg m c r :=
  (R10_keeps m c r h10).trans ((R9_keeps m c r h9).trans ((R8_keeps m c r h8).trans ((R7_keeps m c r h7).trans
    ((R6_keeps m c r h6).trans ((R5_keeps m c r h5).trans (R4_arg m c r h1 h2 h3 h4))))))

theorem node_index (q : Fin 10000) : S10000.rowMajor (ix1 q) = q := by
  apply Fin.ext; rw [Shape.rowMajor_val_one]
theorem xfer_index (q : Fin 100000) : S100000.rowMajor (ix1 q) = q := by
  apply Fin.ext; rw [Shape.rowMajor_val_one]

theorem v10_at (q : Fin 10000) : (R1 m c (Proc.devRef .tc main_v10) : FVec Ideal S10000 .f32) (ix1 q) = (argsR m c).score q := by
  have h : R1 m c (Proc.devRef .tc main_v10) = _ := v10_eq _
  rw [h, scoresR_at]
  unfold Args.score
  rw [nat_val]
  rfl

theorem v19_at (q : Fin 10000) : (R2 m c (Proc.devRef .tc main_v19) : FVec Ideal S10000 .f32) (ix1 q)
    = logSoft 10000 (argsR m c).score q + Args.nodeNoise q := by
  have h : R2 m c (Proc.devRef .tc main_v19) = _ := v19_eq _
  rw [h]
  show (logProbsR reducesTo_S10000_S_d0 bcast_S_S10000 (R1 m c (Proc.devRef .tc main_v10)) (ix1 q) : EReal) + (R1 m c (Proc.devRef .tc main_cst) : FVec Ideal S10000 .f32) (ix1 q) = _
  rw [logProbsR_at _ _ _ (argsR m c).score (v10_at m c)]
  congr 1
  have h' : R1 m c (Proc.devRef .tc main_cst) = _ := cst_eq _
  rw [h']
  unfold Args.nodeNoise
  rw [nat_val]
  dsimp only
  rw [node_index, ← noise_node]

variable (hr : ∀ c, (argsR m c).Real)
include hr

theorem v20_at (j : S_.Idx) : (R3 m c (Proc.devRef .tc main_v20) : IVec S_ 32) j = BitVec.ofNat 32 (argsR m c).node := by
  have h : R3 m c (Proc.devRef .tc main_v20) = _ := v20_eq _
  rw [h]
  obtain ⟨q, hq, he⟩ := argReduce_first (n := 10000) (by omega) (by omega) (R2 m c (Proc.devRef .tc main_v19)) (iotaInDim S10000 32 0)
    (constant (F := Ideal) S_ .f32 0xFF800000#32) (constantI S_ 32 0#32) reducesTo_S10000_S_d0 (fun b => b.elim0) h_S_ j
    (fun i => logSoft 10000 (argsR m c).score i + Args.nodeNoise i) (v19_at m c) (fun q => rfl) (fun _ => neg_inf_f32) (fun _ => rfl)
  have h1 := same_first 10000 (by omega) (argsR m c).score Args.nodeNoise (Args.score_real (hr c)) hq
  rw [show (argsR m c).node = q from firstBest_eq h1]
  exact he

theorem v28_at (d : Fin 128) : (R5 m c (Proc.devRef .tc main_v28) : FVec Ideal S128 .f32) (ix1 d) = (argsR m c).x (ix2 (argsR m c).row d) := by
  have h : R5 m c (Proc.devRef .tc main_v28) = _ := v28_eq _
  have hn := (argsR m c).node_first.1
  rw [h, R4_arg m c main_arg0 (by decide) (by decide) (by decide) (by decide)]
  refine slice_row _ (argsR m c).row _ ?_ ?_ d
  · have h23 : R4 m c (Proc.devRef .tc main_v23) = _ := v23_eq _
    show BitVec.toInt ((R4 m c (Proc.devRef .tc main_v23) : IVec S_ 32) _) = _
    rw [h23]
    exact wrap_at (argsR m c).node (by omega) _ _ (v20_at m c hr) _
  · have h26 : R4 m c (Proc.devRef .tc main_v26) = _ := v26_eq _
    show BitVec.toInt ((R4 m c (Proc.devRef .tc main_v26) : IVec S_ 32) _) = _
    rw [h26]
    rfl

theorem v37_at (j : Fin 100000) : (R6 m c (Proc.devRef .tc main_v37) : FVec Ideal S100000 .f32) (ix1 j) = (argsR m c).logits j := by
  have h : R6 m c (Proc.devRef .tc main_v37) = _ := v37_eq _
  have ha : ∀ r : Ref sig .tc, r ∉ rowOps_W → r ∉ scoreOps_W → r ∉ noisyOps_W → r ∉ nodeOps_W → r ∉ startOps_W → R5 m c (Proc.devRef .tc r) = arg m c r :=
    fun r h5 h1 h2 h3 h4 => (R5_keeps m c r h5).trans (R4_arg m c r h1 h2 h3 h4)
  rw [h, ha main_arg1 (by decide) (by decide) (by decide) (by decide) (by decide), ha main_arg2 (by decide) (by decide) (by decide) (by decide) (by decide),
    ha main_arg3 (by decide) (by decide) (by decide) (by decide) (by decide), ha main_arg4 (by decide) (by decide) (by decide) (by decide) (by decide),
    ha main_arg5 (by decide) (by decide) (by decide) (by decide) (by decide)]
  unfold Args.logits
  rw [nat_val]
  unfold Args.logit Args.penalty
  have hp := plainR_at (argsR m c).x (argsR m c).row (R5 m c (Proc.devRef .tc main_v28)) (v28_at m c hr) (argsR m c).aw1 (argsR m c).ab1 (argsR m c).aw2 (argsR m c).ab2 j
  show (if (argsR m c).mask (ix1 j) = 1#1 then plainR (R5 m c (Proc.devRef .tc main_v28)) (argsR m c).aw1 (argsR m c).ab1 (argsR m c).aw2 (argsR m c).ab2 (ix1 j)
    else (plainR (R5 m c (Proc.devRef .tc main_v28)) (argsR m c).aw1 (argsR m c).ab1 (argsR m c).aw2 (argsR m c).ab2 (ix1 j) : EReal) - (FloatOps.ofBits (F := Ideal) .f32 0x501502F9#32 : EReal)) = _
  rw [hp]
  by_cases hm : (argsR m c).mask (ix1 j) = 1#1
  · rw [if_pos hm, if_pos hm, zero_f32, add_zero]
  · rw [if_neg hm, if_neg hm, big_word, neg_big_word, sub_eq_add_neg, ← EReal.coe_neg]

theorem v45_at (j : Fin 100000) : (R7 m c (Proc.devRef .tc main_v45) : FVec Ideal S100000 .f32) (ix1 j) = logSoft 100000 (argsR m c).logits j := by
  have h : R7 m c (Proc.devRef .tc main_v45) = _ := v45_eq _
  rw [h]
  exact logProbsR_at _ _ _ _ (v37_at m c hr) j

theorem v47_at (j : S_.Idx) : (R8 m c (Proc.devRef .tc main_v47) : IVec S_ 32) j = BitVec.ofNat 32 (argsR m c).xfer := by
  have h : R8 m c (Proc.devRef .tc main_v47) = _ := v47_eq _
  have hc : R7 m c (Proc.devRef .tc main_cst_0) = fun i => FloatOps.ofBits (F := Ideal) .f32 (lit1 (S100000.rowMajor i)) :=
    (R7_keeps m c main_cst_0 (by decide)).trans ((R6_keeps m c main_cst_0 (by decide)).trans ((R5_keeps m c main_cst_0 (by decide)).trans
      ((R4_keeps m c main_cst_0 (by decide)).trans ((R3_keeps m c main_cst_0 (by decide)).trans ((R2_keeps m c main_cst_0 (by decide)).trans (cst_0_eq _))))))
  rw [h]
  obtain ⟨q, hq, he⟩ := argReduce_first (n := 100000) (by omega) (by omega)
    (addf (F := Ideal) (φ := .f32) (R7 m c (Proc.devRef .tc main_v45)) (R7 m c (Proc.devRef .tc main_cst_0))) (iotaInDim S100000 32 0)
    (constant (F := Ideal) S_ .f32 0xFF800000#32) (constantI S_ 32 0#32) reducesTo_S100000_S_d0 (fun b => b.elim0) h_S_ j
    (fun i => logSoft 100000 (argsR m c).logits i + Args.xferNoise i) (fun q => by
      show HAdd.hAdd (α := EReal) (β := EReal) (γ := EReal) ((R7 m c (Proc.devRef .tc main_v45) : FVec Ideal S100000 .f32) (ix1 q)) ((R7 m c (Proc.devRef .tc main_cst_0) : FVec Ideal S100000 .f32) (ix1 q)) = _
      rw [v45_at m c hr, hc]
      congr 1
      unfold Args.xferNoise
      rw [nat_val]
      dsimp only
      rw [xfer_index, ← noise_xfer]) (fun q => rfl) (fun _ => neg_inf_f32) (fun _ => rfl)
  have h1 := same_first 100000 (by omega) (argsR m c).logits Args.xferNoise (Args.logits_real (hr c)) hq
  rw [show (argsR m c).xfer = q from firstBest_eq h1]
  exact he

theorem v52_at (j : S_.Idx) : (R10 m c (Proc.devRef .tc main_v52) : FVec Ideal S_ .f32) j = (argsR m c).logprob := by
  have h : R10 m c (Proc.devRef .tc main_v52) = _ := v52_eq _
  have hn := (argsR m c).xfer_first.1
  rw [h, R9_keeps m c main_v45 (by decide), R8_keeps m c main_v45 (by decide)]
  refine (slice_entry _ ⟨(argsR m c).xfer, hn⟩ _ ?_ j).trans (v45_at m c hr ⟨(argsR m c).xfer, hn⟩)
  have h50 : R9 m c (Proc.devRef .tc main_v50) = _ := v50_eq _
  show BitVec.toInt ((R9 m c (Proc.devRef .tc main_v50) : IVec S_ 32) _) = _
  rw [h50]
  exact wrap_at (argsR m c).xfer (by omega) _ _ (v47_at m c hr) _

theorem end_v20 : R10 m c (Proc.devRef .tc main_v20) = fun _ => BitVec.ofNat 32 (argsR m c).node :=
  (R10_keeps m c main_v20 (by decide)).trans ((R9_keeps m c main_v20 (by decide)).trans ((R8_keeps m c main_v20 (by decide)).trans
    ((R7_keeps m c main_v20 (by decide)).trans ((R6_keeps m c main_v20 (by decide)).trans ((R5_keeps m c main_v20 (by decide)).trans
      ((R4_keeps m c main_v20 (by decide)).trans (funext (v20_at m c hr))))))))

theorem end_v47 : R10 m c (Proc.devRef .tc main_v47) = fun _ => BitVec.ofNat 32 (argsR m c).xfer :=
  (R10_keeps m c main_v47 (by decide)).trans ((R9_keeps m c main_v47 (by decide)).trans (funext (v47_at m c hr)))

theorem end_v52 : R10 m c (Proc.devRef .tc main_v52) = fun _ => (argsR m c).logprob := funext (v52_at m c hr)

end Cert.Proof.Ref

end
-- ==== Proof.lean ====
/-
  The claim: from finite arguments the kernel runs, the reference runs, and both end with the same three results.
-/
module

public import proofs.«01_k».proof.Defs
public import proofs.«01_k».proof.Proof.ValueK
public import proofs.«01_k».proof.Proof.RefFinal

@[expose] public section

set_option maxRecDepth 65536
set_option backward.isDefEq.respectTransparency.types false

noncomputable section

namespace Cert.Proof

open Idealize.ShloMosaic Idealize.ShloMosaic.TcCoe Idealize.ShloMosaic.StableHlo Idealize.SL.Sem

abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

/-- Under the precondition every float argument is real. -/
theorem real_args (m : MemK) (h : Pre_KernelIdeal_finite m) (c : Dev Cert.KernelIdeal.nD) : (argsK m c).Real := by
  obtain ⟨h0, h2, h3, h4, h5, h6, h7, h8, h9⟩ := all_real _ _ _ _ _ _ _ _ _ _ (h c)
  exact ⟨h0, h2, h3, h4, h5, h6, h7, h8, h9⟩

section Kernel
open Cert.KernelIdeal Cert.KernelIdeal.Gen

/-- The kernel's run: its three results and its arguments. -/
theorem kernel_ends (m : MemK) (g : Dev nD → PrngReg) :
    θ_run (defs (F := Ideal)) (onTc (τ := τ) (main (F := Ideal))) ⟨m, fun _ => 0, g⟩ (fun r =>
      (∀ c : Dev nD, r.2.mem ((c.tc : Thread nD τ).loc main_v14) = (fun _ => BitVec.ofNat 32 (argsK m c).node)
        ∧ r.2.mem ((c.tc : Thread nD τ).loc main_v15) = (fun _ => chosen (atA m) c)
        ∧ r.2.mem ((c.tc : Thread nD τ).loc main_v16) = (fun _ => logp (atA m) c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0) :=
  (θ_run defs _ _).mono (fun r h => ⟨fun c =>
    ⟨(h.1 c main_v14 (Finset.mem_filter.mpr ⟨devRef_mem_tcRefs main_v14, by decide⟩)).trans ((V8_v14 m c).trans (by rw [picked_eq])),
     (h.1 c main_v15 (Finset.mem_filter.mpr ⟨devRef_mem_tcRefs main_v15, by decide⟩)).trans (V8_v15 m c),
     (h.1 c main_v16 (Finset.mem_filter.mpr ⟨devRef_mem_tcRefs main_v16, by decide⟩)).trans (V8_v16 m c),
     (h.1 c main_arg0 (Finset.mem_filter.mpr ⟨devRef_mem_tcRefs main_arg0, by decide⟩)).trans (V8_main_arg0 m (outsK m) c),
     (h.1 c main_arg1 (Finset.mem_filter.mpr ⟨devRef_mem_tcRefs main_arg1, by decide⟩)).trans (V8_main_arg1 m (outsK m) c),
     (h.1 c main_arg2 (Finset.mem_filter.mpr ⟨devRef_mem_tcRefs main_arg2, by decide⟩)).trans (V8_main_arg2 m (outsK m) c),
     (h.1 c main_arg3 (Finset.mem_filter.mpr ⟨devRef_mem_tcRefs main_arg3, by decide⟩)).trans (V8_main_arg3 m (outsK m) c),
     (h.1 c main_arg4 (Finset.mem_filter.mpr ⟨devRef_mem_tcRefs main_arg4, by decide⟩)).trans (V8_main_arg4 m (outsK m) c),
     (h.1 c main_arg5 (Finset.mem_filter.mpr ⟨devRef_mem_tcRefs main_arg5, by decide⟩)).trans (V8_main_arg5 m (outsK m) c),
     (h.1 c main_arg6 (Finset.mem_filter.mpr ⟨devRef_mem_tcRefs main_arg6, by decide⟩)).trans (V8_main_arg6 m (outsK m) c),
     (h.1 c main_arg7 (Finset.mem_filter.mpr ⟨devRef_mem_tcRefs main_arg7, by decide⟩)).trans (V8_main_arg7 m (outsK m) c),
     (h.1 c main_arg8 (Finset.mem_filter.mpr ⟨devRef_mem_tcRefs main_arg8, by decide⟩)).trans (V8_main_arg8 m (outsK m) c),
     (h.1 c main_arg9 (Finset.mem_filter.mpr ⟨devRef_mem_tcRefs main_arg9, by decide⟩)).trans (V8_main_arg9 m (outsK m) c)⟩, h.2⟩)
    (kernelRun m g (chk m) (padded m))

end Kernel

section Reference
open Cert.ReferenceIdeal Cert.ReferenceIdeal.Gen

/-- The reference leaves its arguments as launched. -/
theorem reference_args (m : MemR) (c : Dev nD) (s : MemSt nD τ sig (Elt Ideal))
    (h : ∀ (c : Dev nD) (b : Ref sig .tc), s.mem ((c.tc : Thread nD τ).loc b) = Ref.R10 m c (Proc.devRef .tc b)) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9) :=
  ⟨(h c main_arg0).trans (Ref.R10_arg m c main_arg0 (by decide) (by decide) (by decide) (by decide) (by decide) (by decide) (by decide) (by decide) (by decide) (by decide)),
   (h c main_arg1).trans (Ref.R10_arg m c main_arg1 (by decide) (by decide) (by decide) (by decide) (by decide) (by decide) (by decide) (by decide) (by decide) (by decide)),
   (h c main_arg2).trans (Ref.R10_arg m c main_arg2 (by decide) (by decide) (by decide) (by decide) (by decide) (by decide) (by decide) (by decide) (by decide) (by decide)),
   (h c main_arg3).trans (Ref.R10_arg m c main_arg3 (by decide) (by decide) (by decide) (by decide) (by decide) (by decide) (by decide) (by decide) (by decide) (by decide)),
   (h c main_arg4).trans (Ref.R10_arg m c main_arg4 (by decide) (by decide) (by decide) (by decide) (by decide) (by decide) (by decide) (by decide) (by decide) (by decide)),
   (h c main_arg5).trans (Ref.R10_arg m c main_arg5 (by decide) (by decide) (by decide) (by decide) (by decide) (by decide) (by decide) (by decide) (by decide) (by decide)),
   (h c main_arg6).trans (Ref.R10_arg m c main_arg6 (by decide) (by decide) (by decide) (by decide) (by decide) (by decide) (by decide) (by decide) (by decide) (by decide)),
   (h c main_arg7).trans (Ref.R10_arg m c main_arg7 (by decide) (by decide) (by decide) (by decide) (by decide) (by decide) (by decide) (by decide) (by decide) (by decide)),
   (h c main_arg8).trans (Ref.R10_arg m c main_arg8 (by decide) (by decide) (by decide) (by decide) (by decide) (by decide) (by decide) (by decide) (by decide) (by decide)),
   (h c main_arg9).trans (Ref.R10_arg m c main_arg9 (by decide) (by decide) (by decide) (by decide) (by decide) (by decide) (by decide) (by decide) (by decide) (by decide))⟩

end Reference

theorem same_args (m : MemK) (m' : MemR) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Ref.argsR m' c = argsK m c := by
  unfold Ref.argsR argsK
  congr 1

theorem quiescent_kernel : quiescent_KernelIdeal := fun m g _ =>
  (θ_run Cert.KernelIdeal.defs _ _).mono (fun r e => ⟨fun c => (e.1 c).2.2.2, e.2⟩) (kernel_ends m g)

theorem quiescent_reference : quiescent_ReferenceIdeal := fun m g _ =>
  (θ_run Cert.ReferenceIdeal.defs _ _).mono (fun r e => ⟨fun c => reference_args m c r.2 e.1, e.2⟩) (Ref.run_all m g)

theorem quiescent_kernel_finite : quiescent_KernelIdeal_pre_finite := fun m g _ => quiescent_kernel m g trivial

theorem quiescent_reference_finite : quiescent_ReferenceIdeal_pre_finite := fun m g _ => quiescent_reference m g trivial

theorem same_results : algebraic_KernelIdeal_ReferenceIdeal_pre_finite := fun m g m' g' h hs => by
  have hr := real_args m h
  have ha : ∀ c, Ref.argsR m' c = argsK m c := fun c => by
    obtain ⟨h0, h1, h2, h3, h4, h5, h6, h7, h8, h9⟩ := hs c
    exact same_args m m' c h0 h1 h2 h3 h4 h5 h6 h7 h8 h9
  have hr' : ∀ c, (Ref.argsR m' c).Real := fun c => by rw [ha c]; exact hr c
  refine ⟨fun c _ => BitVec.ofNat 32 (argsK m c).node, fun c _ => BitVec.ofNat 32 (argsK m c).xfer, fun c _ => (argsK m c).logprob,
    (θ_run Cert.KernelIdeal.defs _ _).mono (fun r e c => ?_) (kernel_ends m g),
    (θ_run Cert.ReferenceIdeal.defs _ _).mono (fun r e c => ?_) (Ref.run_all m' g')⟩
  · obtain ⟨e0, e1, e2, ea⟩ := e.1 c
    exact ⟨e0, e1.trans (by rw [chosen_eq m c hr]), e2.trans (by rw [logp_eq m c hr]), ea⟩
  refine ⟨(e.1 c Cert.ReferenceIdeal.main_v20).trans ?_, (e.1 c Cert.ReferenceIdeal.main_v47).trans ?_, (e.1 c Cert.ReferenceIdeal.main_v52).trans ?_,
    reference_args m' c r.2 e.1⟩
  · rw [Ref.end_v20 m' c hr', ha c]; rfl
  · rw [Ref.end_v47 m' c hr', ha c]; rfl
  · rw [Ref.end_v52 m' c hr', ha c]; rfl

theorem claim : Cert.Claim := ⟨Cert.KernelIdeal.Gen.facts, Cert.ReferenceIdeal.Gen.facts, Cert.Pre_finite.Gen.facts,
  quiescent_kernel, quiescent_kernel_finite, quiescent_reference, quiescent_reference_finite, same_results⟩

end Cert.Proof

end
